-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S8x4x64x64 : Shape := ⟨4, ![8, 4, 64, 64]⟩
abbrev S4x512x64 : Shape := ⟨3, ![4, 512, 64]⟩
abbrev S8 : Shape := ⟨1, ![8]⟩
abbrev S4 : Shape := ⟨1, ![4]⟩
abbrev S_ : Shape := ⟨0, ![]⟩
abbrev S2048x128 : Shape := ⟨2, ![2048, 128]⟩
abbrev S64x128 : Shape := ⟨2, ![64, 128]⟩
abbrev S64x64 : Shape := ⟨2, ![64, 64]⟩
abbrev S1x64x64 : Shape := ⟨3, ![1, 64, 64]⟩
abbrev S1 : Shape := ⟨1, ![1]⟩
abbrev S1x4x64x64 : Shape := ⟨4, ![1, 4, 64, 64]⟩
abbrev S4x64x64 : Shape := ⟨3, ![4, 64, 64]⟩
abbrev S1x1x64x64 : Shape := ⟨4, ![1, 1, 64, 64]⟩
abbrev S512x64 : Shape := ⟨2, ![512, 64]⟩
abbrev S1x512x64 : Shape := ⟨3, ![1, 512, 64]⟩

abbrev nBuf : Space → Nat
  | .hbm => 3
  | .vmem => 6
  | .smem => 0
  | _ => 0

abbrev bufTy : (tb : Table) → Fin (tcTables nBuf tb) → BufTy
  | .hbm, ⟨0, _⟩ => ⟨S64x2048, .bf16⟩
  | .hbm, ⟨1, _⟩ => ⟨S2048x2048, .bf16⟩
  | .hbm, ⟨2, _⟩ => ⟨S2048x64, .bf16⟩
  | .local _ .vmem, ⟨0, _⟩ => ⟨S64x2048, .bf16⟩
  | .local _ .vmem, ⟨1, _⟩ => ⟨S2048x2048, .bf16⟩
  | .local _ .vmem, ⟨2, _⟩ => ⟨S2048x64, .bf16⟩
  | .local _ .vmem, ⟨3, _⟩ => ⟨S32x64x64, .bf16⟩
  | .local _ .vmem, ⟨4, _⟩ => ⟨S8x4x64x64, .bf16⟩
  | .local _ .vmem, ⟨5, _⟩ => ⟨S4x512x64, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v22 : BitVec 32 := Scalar.muli v19 c8_i32_6
  let c8_i32_5 : BitVec 32 := 8#32
  let v20 : BitVec 32 := Scalar.remsi v2 c8_i32_5
  let c1_i32_7 : BitVec 32 := 1#32
  let v23 : BitVec 32 := Scalar.addi v20 c1_i32_7
  let c8_i32_8 : BitVec 32 := 8#32
  let v24 : BitVec 32 := Scalar.remsi v23 c8_i32_8
  let v25 : BitVec 32 := Scalar.addi v22 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_12 : BitVec 32 := 8#32
  let v28 : BitVec 32 := Scalar.muli v19 c8_i32_12
  let c8_i32_5 : BitVec 32 := 8#32
  let v20 : BitVec 32 := Scalar.remsi v2 c8_i32_5
  let c2_i32 : BitVec 32 := 2#32
  let v29 : BitVec 32 := Scalar.addi v20 c2_i32
  let c8_i32_13 : BitVec 32 := 8#32
  let v30 : BitVec 32 := Scalar.remsi v29 c8_i32_13
  let v31 : BitVec 32 := Scalar.addi v28 v30
  let c1_i32_15 : BitVec 32 := 1#32
  let v32 : BitVec 32 := Scalar.muli v31 c1_i32_15
  let v33 : BitVec 32 := Scalar.addi c0_i32_16 v32
  v33.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v34 : BitVec 32 := Scalar.muli v19 c8_i32_17
  let c8_i32_5 : BitVec 32 := 8#32
  let v20 : BitVec 32 := Scalar.remsi v2 c8_i32_5
  let c3_i32 : BitVec 32 := 3#32
  let v35 : BitVec 32 := Scalar.addi v20 c3_i32
  let c8_i32_18 : BitVec 32 := 8#32
  let v36 : BitVec 32 := Scalar.remsi v35 c8_i32_18
  let v37 : BitVec 32 := Scalar.addi v34 v36
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v40 : BitVec 32 := Scalar.muli v19 c8_i32_22
  let c8_i32_5 : BitVec 32 := 8#32
  let v20 : BitVec 32 := Scalar.remsi v2 c8_i32_5
  let c4_i32 : BitVec 32 := 4#32
  let v41 : BitVec 32 := Scalar.addi v20 c4_i32
  let c8_i32_23 : BitVec 32 := 8#32
  let v42 : BitVec 32 := Scalar.remsi v41 c8_i32_23
  let v43 : BitVec 32 := Scalar.addi v40 v42
  let c1_i32_25 : BitVec 32 := 1#32
  let v44 : BitVec 32 := Scalar.muli v43 c1_i32_25
  let v45 : BitVec 32 := Scalar.addi c0_i32_26 v44
  v45.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v46 : BitVec 32 := Scalar.muli v19 c8_i32_27
  let c8_i32_5 : BitVec 32 := 8#32
  let v20 : BitVec 32 := Scalar.remsi v2 c8_i32_5
  let c5_i32 : BitVec 32 := 5#32
  let v47 : BitVec 32 := Scalar.addi v20 c5_i32
  let c8_i32_28 : BitVec 32 := 8#32
  let v48 : BitVec 32 := Scalar.remsi v47 c8_i32_28
  let v49 : BitVec 32 := Scalar.addi v46 v48
  let c1_i32_30 : BitVec 32 := 1#32
  let v50 : BitVec 32 := Scalar.muli v49 c1_i32_30
  let v51 : BitVec 32 := Scalar.addi c0_i32_31 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_32 : BitVec 32 := 8#32
  let v52 : BitVec 32 := Scalar.muli v19 c8_i32_32
  let c8_i32_5 : BitVec 32 := 8#32
  let v20 : BitVec 32 := Scalar.remsi v2 c8_i32_5
  let c6_i32 : BitVec 32 := 6#32
  let v53 : BitVec 32 := Scalar.addi v20 c6_i32
  let c8_i32_33 : BitVec 32 := 8#32
  let v54 : BitVec 32 := Scalar.remsi v53 c8_i32_33
  let v55 : BitVec 32 := Scalar.addi v52 v54
  let c1_i32_35 : BitVec 32 := 1#32
  let v56 : BitVec 32 := Scalar.muli v55 c1_i32_35
  let v57 : BitVec 32 := Scalar.addi c0_i32_36 v56
  v57.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v58 : BitVec 32 := Scalar.muli v19 c8_i32_37
  let c8_i32_5 : BitVec 32 := 8#32
  let v20 : BitVec 32 := Scalar.remsi v2 c8_i32_5
  let c7_i32 : BitVec 32 := 7#32
  let v59 : BitVec 32 := Scalar.addi v20 c7_i32
  let c8_i32_38 : BitVec 32 := 8#32
  let v60 : BitVec 32 := Scalar.remsi v59 c8_i32_38
  let v61 : BitVec 32 := Scalar.addi v58 v60
  let c1_i32_40 : BitVec 32 := 1#32
  let v62 : BitVec 32 := Scalar.muli v61 c1_i32_40
  let v63 : BitVec 32 := Scalar.addi c0_i32_41 v62
  v63.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v64 : BitVec 32 := Scalar.addi v19 c1_i32_42
  let c4_i32_43 : BitVec 32 := 4#32
  let v65 : BitVec 32 := Scalar.remsi v64 c4_i32_43
  let c8_i32_44 : BitVec 32 := 8#32
  let v66 : BitVec 32 := Scalar.muli v65 c8_i32_44
  let c8_i32_5 : BitVec 32 := 8#32
  let v20 : BitVec 32 := Scalar.remsi v2 c8_i32_5
  let v67 : BitVec 32 := Scalar.addi v66 v20
  let c1_i32_46 : BitVec 32 := 1#32
  let v68 : BitVec 32 := Scalar.muli v67 c1_i32_46
  let v69 : BitVec 32 := Scalar.addi c0_i32_47 v68
  v69.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v70 : BitVec 32 := Scalar.addi v19 c2_i32_48
  let c4_i32_49 : BitVec 32 := 4#32
  let v71 : BitVec 32 := Scalar.remsi v70 c4_i32_49
  let c8_i32_50 : BitVec 32 := 8#32
  let v72 : BitVec 32 := Scalar.muli v71 c8_i32_50
  let c8_i32_5 : BitVec 32 := 8#32
  let v20 : BitVec 32 := Scalar.remsi v2 c8_i32_5
  let v73 : BitVec 32 := Scalar.addi v72 v20
  let c1_i32_52 : BitVec 32 := 1#32
  let v74 : BitVec 32 := Scalar.muli v73 c1_i32_52
  let v75 : BitVec 32 := Scalar.addi c0_i32_53 v74
  v75.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v76 : BitVec 32 := Scalar.addi v19 c3_i32_54
  let c4_i32_55 : BitVec 32 := 4#32
  let v77 : BitVec 32 := Scalar.remsi v76 c4_i32_55
  let c8_i32_56 : BitVec 32 := 8#32
  let v78 : BitVec 32 := Scalar.muli v77 c8_i32_56
  let c8_i32_5 : BitVec 32 := 8#32
  let v20 : BitVec 32 := Scalar.remsi v2 c8_i32_5
  let v79 : BitVec 32 := Scalar.addi v78 v20
  let c1_i32_58 : BitVec 32 := 1#32
  let v80 : BitVec 32 := Scalar.muli v79 c1_i32_58
  let v81 : BitVec 32 := Scalar.addi c0_i32_59 v80
  v81.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_88 : BitVec 32 := 0#32
  let v134 : BitVec 1 := Scalar.cmpi .ne v20 c0_i32_88
  let v135 : BitVec 32 := Scalar.extui v134
  let c0_i32_90 : BitVec 32 := 0#32
  let v136 : BitVec 1 := Scalar.cmpi .ne v135 c0_i32_90
  v136

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev11 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_86 : BitVec 32 := 8#32
  let v132 : BitVec 32 := Scalar.muli v19 c8_i32_86
  let c0_i32_87 : BitVec 32 := 0#32
  let v133 : BitVec 32 := Scalar.addi v132 c0_i32_87
  let c1_i32_571 : BitVec 32 := 1#32
  let v610 : BitVec 32 := Scalar.muli v133 c1_i32_571
  let v611 : BitVec 32 := Scalar.addi c0_i32_572 v610
  v611.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_93 : BitVec 32 := 1#32
  let v139 : BitVec 1 := Scalar.cmpi .ne v20 c1_i32_93
  let v140 : BitVec 32 := Scalar.extui v139
  let c0_i32_95 : BitVec 32 := 0#32
  let v141 : BitVec 1 := Scalar.cmpi .ne v140 c0_i32_95
  v141

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev12 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_91 : BitVec 32 := 8#32
  let v137 : BitVec 32 := Scalar.muli v19 c8_i32_91
  let c1_i32_92 : BitVec 32 := 1#32
  let v138 : BitVec 32 := Scalar.addi v137 c1_i32_92
  let c1_i32_571 : BitVec 32 := 1#32
  let v610 : BitVec 32 := Scalar.muli v138 c1_i32_571
  let v611 : BitVec 32 := Scalar.addi c0_i32_572 v610
  v611.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_122 : BitVec 32 := 2#32
  let v192 : BitVec 1 := Scalar.cmpi .ne v20 c2_i32_122
  let v193 : BitVec 32 := Scalar.extui v192
  let c0_i32_124 : BitVec 32 := 0#32
  let v194 : BitVec 1 := Scalar.cmpi .ne v193 c0_i32_124
  v194

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev13 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_120 : BitVec 32 := 8#32
  let v190 : BitVec 32 := Scalar.muli v19 c8_i32_120
  let c2_i32_121 : BitVec 32 := 2#32
  let v191 : BitVec 32 := Scalar.addi v190 c2_i32_121
  let c1_i32_571 : BitVec 32 := 1#32
  let v610 : BitVec 32 := Scalar.muli v191 c1_i32_571
  let v611 : BitVec 32 := Scalar.addi c0_i32_572 v610
  v611.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32_127 : BitVec 32 := 3#32
  let v197 : BitVec 1 := Scalar.cmpi .ne v20 c3_i32_127
  let v198 : BitVec 32 := Scalar.extui v197
  let c0_i32_129 : BitVec 32 := 0#32
  let v199 : BitVec 1 := Scalar.cmpi .ne v198 c0_i32_129
  v199

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev14 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_125 : BitVec 32 := 8#32
  let v195 : BitVec 32 := Scalar.muli v19 c8_i32_125
  let c3_i32_126 : BitVec 32 := 3#32
  let v196 : BitVec 32 := Scalar.addi v195 c3_i32_126
  let c1_i32_571 : BitVec 32 := 1#32
  let v610 : BitVec 32 := Scalar.muli v196 c1_i32_571
  let v611 : BitVec 32 := Scalar.addi c0_i32_572 v610
  v611.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_156 : BitVec 32 := 4#32
  let v250 : BitVec 1 := Scalar.cmpi .ne v20 c4_i32_156
  let v251 : BitVec 32 := Scalar.extui v250
  let c0_i32_158 : BitVec 32 := 0#32
  let v252 : BitVec 1 := Scalar.cmpi .ne v251 c0_i32_158
  v252

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev15 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_154 : BitVec 32 := 8#32
  let v248 : BitVec 32 := Scalar.muli v19 c8_i32_154
  let c4_i32_155 : BitVec 32 := 4#32
  let v249 : BitVec 32 := Scalar.addi v248 c4_i32_155
  let c1_i32_571 : BitVec 32 := 1#32
  let v610 : BitVec 32 := Scalar.muli v249 c1_i32_571
  let v611 : BitVec 32 := Scalar.addi c0_i32_572 v610
  v611.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c5_i32_161 : BitVec 32 := 5#32
  let v255 : BitVec 1 := Scalar.cmpi .ne v20 c5_i32_161
  let v256 : BitVec 32 := Scalar.extui v255
  let c0_i32_163 : BitVec 32 := 0#32
  let v257 : BitVec 1 := Scalar.cmpi .ne v256 c0_i32_163
  v257

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev16 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_159 : BitVec 32 := 8#32
  let v253 : BitVec 32 := Scalar.muli v19 c8_i32_159
  let c5_i32_160 : BitVec 32 := 5#32
  let v254 : BitVec 32 := Scalar.addi v253 c5_i32_160
  let c1_i32_571 : BitVec 32 := 1#32
  let v610 : BitVec 32 := Scalar.muli v254 c1_i32_571
  let v611 : BitVec 32 := Scalar.addi c0_i32_572 v610
  v611.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c6_i32_190 : BitVec 32 := 6#32
  let v308 : BitVec 1 := Scalar.cmpi .ne v20 c6_i32_190
  let v309 : BitVec 32 := Scalar.extui v308
  let c0_i32_192 : BitVec 32 := 0#32
  let v310 : BitVec 1 := Scalar.cmpi .ne v309 c0_i32_192
  v310

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev17 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_188 : BitVec 32 := 8#32
  let v306 : BitVec 32 := Scalar.muli v19 c8_i32_188
  let c6_i32_189 : BitVec 32 := 6#32
  let v307 : BitVec 32 := Scalar.addi v306 c6_i32_189
  let c1_i32_571 : BitVec 32 := 1#32
  let v610 : BitVec 32 := Scalar.muli v307 c1_i32_571
  let v611 : BitVec 32 := Scalar.addi c0_i32_572 v610
  v611.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_195 : BitVec 32 := 7#32
  let v313 : BitVec 1 := Scalar.cmpi .ne v20 c7_i32_195
  let v314 : BitVec 32 := Scalar.extui v313
  let c0_i32_197 : BitVec 32 := 0#32
  let v315 : BitVec 1 := Scalar.cmpi .ne v314 c0_i32_197
  v315

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  ![v20.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_573 : BitVec 32 := 0#32
  let c0_i32_574 : BitVec 32 := 0#32
  let c0_i32_575 : BitVec 32 := 0#32
  ![v20.toNat, 0, 0, 0]
def k0_dev18 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_193 : BitVec 32 := 8#32
  let v311 : BitVec 32 := Scalar.muli v19 c8_i32_193
  let c7_i32_194 : BitVec 32 := 7#32
  let v312 : BitVec 32 := Scalar.addi v311 c7_i32_194
  let c1_i32_571 : BitVec 32 := 1#32
  let v610 : BitVec 32 := Scalar.muli v312 c1_i32_571
  let v611 : BitVec 32 := Scalar.addi c0_i32_572 v610
  v611.toNat
def k0_off17 (d0 : Dev nD) (c0_i32_199 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_198 : BitVec 32 := 4#32
  let v316 : BitVec 32 := Scalar.muli v20 c4_i32_198
  let v317 : BitVec 32 := Scalar.addi v316 c0_i32_199
  let v318 : Index := Scalar.indexCast v317
  let c0_200 : Index := 0#32
  let c0_201 : Index := 0#32
  ![v318.toNat, 0, 0]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v321 : Index := Scalar.indexCast v20
  let c0_202 : Index := 0#32
  let c0_203 : Index := 0#32
  let c0_204 : Index := 0#32
  ![v321.toNat, 0, 0, 0]
def k0_off19 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v330 : Index := Scalar.indexCast v20
  let c1_209 : Index := 1#32
  let c0_210 : Index := 0#32
  let c0_211 : Index := 0#32
  ![v330.toNat, 1, 0, 0]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v339 : Index := Scalar.indexCast v20
  let c2_216 : Index := 2#32
  let c0_217 : Index := 0#32
  let c0_218 : Index := 0#32
  ![v339.toNat, 2, 0, 0]
def k0_off21 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v348 : Index := Scalar.indexCast v20
  let c3_223 : Index := 3#32
  let c0_224 : Index := 0#32
  let c0_225 : Index := 0#32
  ![v348.toNat, 3, 0, 0]
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_487 : BitVec 32 := 0#32
  let v538 : BitVec 1 := Scalar.cmpi .ne v19 c0_i32_487
  let v539 : BitVec 32 := Scalar.extui v538
  let c0_i32_490 : BitVec 32 := 0#32
  let v540 : BitVec 1 := Scalar.cmpi .ne v539 c0_i32_490
  v540

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32 : BitVec 32 := 512#32
  let v536 : BitVec 32 := Scalar.muli v19 c512_i32
  let c0_i32_573 : BitVec 32 := 0#32
  ![v536.toNat, 0]
def k0_dev19 (d0 : Dev nD) : Nat :=
  let c0_i32_572 : BitVec 32 := 0#32
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v537 : BitVec 32 := Scalar.addi c0_i32_486 v20
  let c1_i32_571 : BitVec 32 := 1#32
  let v610 : BitVec 32 := Scalar.muli v537 c1_i32_571
  let v611 : BitVec 32 := Scalar.addi c0_i32_572 v610
  v611.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_493 : BitVec 32 := 1#32
  let v543 : BitVec 1 := Scalar.cmpi .ne v19 c1_i32_493
  let v544 : BitVec 32 := Scalar.extui v543
  let c0_i32_496 : BitVec 32 := 0#32
  let v545 : BitVec 1 := Scalar.cmpi .ne v544 c0_i32_496
  v545

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_491 : BitVec 32 := 512#32
  let v541 : BitVec 32 := Scalar.muli v19 c512_i32_491
  let c0_i32_573 : BitVec 32 := 0#32
  ![v541.toNat, 0]
def k0_dev20 (d0 : Dev nD) : Nat :=
  let c0_i32_572 : BitVec 32 := 0#32
  let c8_i32_492 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v542 : BitVec 32 := Scalar.addi c8_i32_492 v20
  let c1_i32_571 : BitVec 32 := 1#32
  let v610 : BitVec 32 := Scalar.muli v542 c1_i32_571
  let v611 : BitVec 32 := Scalar.addi c0_i32_572 v610
  v611.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_498 : BitVec 32 := 2#32
  let v548 : BitVec 1 := Scalar.cmpi .ne v19 c2_i32_498
  let v549 : BitVec 32 := Scalar.extui v548
  let c0_i32_501 : BitVec 32 := 0#32
  let v550 : BitVec 1 := Scalar.cmpi .ne v549 c0_i32_501
  v550

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_497 : BitVec 32 := 512#32
  let v546 : BitVec 32 := Scalar.muli v19 c512_i32_497
  let c0_i32_573 : BitVec 32 := 0#32
  ![v546.toNat, 0]
def k0_dev21 (d0 : Dev nD) : Nat :=
  let c0_i32_572 : BitVec 32 := 0#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v547 : BitVec 32 := Scalar.addi c16_i32 v20
  let c1_i32_571 : BitVec 32 := 1#32
  let v610 : BitVec 32 := Scalar.muli v547 c1_i32_571
  let v611 : BitVec 32 := Scalar.addi c0_i32_572 v610
  v611.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_503 : BitVec 32 := 3#32
  let v553 : BitVec 1 := Scalar.cmpi .ne v19 c3_i32_503
  let v554 : BitVec 32 := Scalar.extui v553
  let c0_i32_506 : BitVec 32 := 0#32
  let v555 : BitVec 1 := Scalar.cmpi .ne v554 c0_i32_506
  v555

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_502 : BitVec 32 := 512#32
  let v551 : BitVec 32 := Scalar.muli v19 c512_i32_502
  let c0_i32_573 : BitVec 32 := 0#32
  ![v551.toNat, 0]
def k0_dev22 (d0 : Dev nD) : Nat :=
  let c0_i32_572 : BitVec 32 := 0#32
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v552 : BitVec 32 := Scalar.addi c24_i32 v20
  let c1_i32_571 : BitVec 32 := 1#32
  let v610 : BitVec 32 := Scalar.muli v552 c1_i32_571
  let v611 : BitVec 32 := Scalar.addi c0_i32_572 v610
  v611.toNat
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v556 : Index := Scalar.indexCast v19
  let c0_507 : Index := 0#32
  let c0_508 : Index := 0#32
  ![v556.toNat, 0, 0]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_509 : BitVec 32 := 512#32
  let v559 : BitVec 32 := Scalar.muli v19 c512_i32_509
  let v560 : Index := Scalar.indexCast v559
  let c0_510 : Index := 0#32
  ![v560.toNat, 0]
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_531 : BitVec 32 := 0#32
  let v574 : BitVec 1 := Scalar.cmpi .ne v20 c0_i32_531
  let v575 : BitVec 32 := Scalar.extui v574
  let c0_i32_533 : BitVec 32 := 0#32
  let v576 : BitVec 1 := Scalar.cmpi .ne v575 c0_i32_533
  v576

def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_575 : BitVec 32 := 0#32
  let c0_i32_576 : BitVec 32 := 0#32
  let c0_i32_577 : BitVec 32 := 0#32
  ![v20.toNat, 0, 0, 0]
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_534 : BitVec 32 := 1#32
  let v577 : BitVec 1 := Scalar.cmpi .ne v20 c1_i32_534
  let v578 : BitVec 32 := Scalar.extui v577
  let c0_i32_536 : BitVec 32 := 0#32
  let v579 : BitVec 1 := Scalar.cmpi .ne v578 c0_i32_536
  v579

def k0_off33 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_575 : BitVec 32 := 0#32
  let c0_i32_576 : BitVec 32 := 0#32
  let c0_i32_577 : BitVec 32 := 0#32
  ![v20.toNat, 0, 0, 0]
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_537 : BitVec 32 := 2#32
  let v580 : BitVec 1 := Scalar.cmpi .ne v20 c2_i32_537
  let v581 : BitVec 32 := Scalar.extui v580
  let c0_i32_539 : BitVec 32 := 0#32
  let v582 : BitVec 1 := Scalar.cmpi .ne v581 c0_i32_539
  v582

def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_575 : BitVec 32 := 0#32
  let c0_i32_576 : BitVec 32 := 0#32
  let c0_i32_577 : BitVec 32 := 0#32
  ![v20.toNat, 0, 0, 0]
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32_540 : BitVec 32 := 3#32
  let v583 : BitVec 1 := Scalar.cmpi .ne v20 c3_i32_540
  let v584 : BitVec 32 := Scalar.extui v583
  let c0_i32_542 : BitVec 32 := 0#32
  let v585 : BitVec 1 := Scalar.cmpi .ne v584 c0_i32_542
  v585

def k0_off35 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_574 : BitVec 32 := 0#32
  let c0_i32_575 : BitVec 32 := 0#32
  let c0_i32_576 : BitVec 32 := 0#32
  ![v20.toNat, 0, 0, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_543 : BitVec 32 := 4#32
  let v586 : BitVec 1 := Scalar.cmpi .ne v20 c4_i32_543
  let v587 : BitVec 32 := Scalar.extui v586
  let c0_i32_545 : BitVec 32 := 0#32
  let v588 : BitVec 1 := Scalar.cmpi .ne v587 c0_i32_545
  v588

def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_575 : BitVec 32 := 0#32
  let c0_i32_576 : BitVec 32 := 0#32
  let c0_i32_577 : BitVec 32 := 0#32
  ![v20.toNat, 0, 0, 0]
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c5_i32_546 : BitVec 32 := 5#32
  let v589 : BitVec 1 := Scalar.cmpi .ne v20 c5_i32_546
  let v590 : BitVec 32 := Scalar.extui v589
  let c0_i32_548 : BitVec 32 := 0#32
  let v591 : BitVec 1 := Scalar.cmpi .ne v590 c0_i32_548
  v591

def k0_off37 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_574 : BitVec 32 := 0#32
  let c0_i32_575 : BitVec 32 := 0#32
  let c0_i32_576 : BitVec 32 := 0#32
  ![v20.toNat, 0, 0, 0]
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c6_i32_549 : BitVec 32 := 6#32
  let v592 : BitVec 1 := Scalar.cmpi .ne v20 c6_i32_549
  let v593 : BitVec 32 := Scalar.extui v592
  let c0_i32_551 : BitVec 32 := 0#32
  let v594 : BitVec 1 := Scalar.cmpi .ne v593 c0_i32_551
  v594

def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_575 : BitVec 32 := 0#32
  let c0_i32_576 : BitVec 32 := 0#32
  let c0_i32_577 : BitVec 32 := 0#32
  ![v20.toNat, 0, 0, 0]
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_552 : BitVec 32 := 7#32
  let v595 : BitVec 1 := Scalar.cmpi .ne v20 c7_i32_552
  let v596 : BitVec 32 := Scalar.extui v595
  let c0_i32_554 : BitVec 32 := 0#32
  let v597 : BitVec 1 := Scalar.cmpi .ne v596 c0_i32_554
  v597

def k0_off39 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_574 : BitVec 32 := 0#32
  let c0_i32_575 : BitVec 32 := 0#32
  let c0_i32_576 : BitVec 32 := 0#32
  ![v20.toNat, 0, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_555 : BitVec 32 := 0#32
  let v598 : BitVec 1 := Scalar.cmpi .ne v19 c0_i32_555
  let v599 : BitVec 32 := Scalar.extui v598
  let c0_i32_558 : BitVec 32 := 0#32
  let v600 : BitVec 1 := Scalar.cmpi .ne v599 c0_i32_558
  v600

def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32 : BitVec 32 := 512#32
  let v536 : BitVec 32 := Scalar.muli v19 c512_i32
  let c0_i32_574 : BitVec 32 := 0#32
  ![v536.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_559 : BitVec 32 := 1#32
  let v601 : BitVec 1 := Scalar.cmpi .ne v19 c1_i32_559
  let v602 : BitVec 32 := Scalar.extui v601
  let c0_i32_562 : BitVec 32 := 0#32
  let v603 : BitVec 1 := Scalar.cmpi .ne v602 c0_i32_562
  v603

def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_491 : BitVec 32 := 512#32
  let v541 : BitVec 32 := Scalar.muli v19 c512_i32_491
  let c0_i32_574 : BitVec 32 := 0#32
  ![v541.toNat, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_563 : BitVec 32 := 2#32
  let v604 : BitVec 1 := Scalar.cmpi .ne v19 c2_i32_563
  let v605 : BitVec 32 := Scalar.extui v604
  let c0_i32_566 : BitVec 32 := 0#32
  let v606 : BitVec 1 := Scalar.cmpi .ne v605 c0_i32_566
  v606

def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_497 : BitVec 32 := 512#32
  let v546 : BitVec 32 := Scalar.muli v19 c512_i32_497
  let c0_i32_574 : BitVec 32 := 0#32
  ![v546.toNat, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_567 : BitVec 32 := 3#32
  let v607 : BitVec 1 := Scalar.cmpi .ne v19 c3_i32_567
  let v608 : BitVec 32 := Scalar.extui v607
  let c0_i32_570 : BitVec 32 := 0#32
  let v609 : BitVec 1 := Scalar.cmpi .ne v608 c0_i32_570
  v609

def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_502 : BitVec 32 := 512#32
  let v551 : BitVec 32 := Scalar.muli v19 c512_i32_502
  let c0_i32_574 : BitVec 32 := 0#32
  ![v551.toNat, 0]
abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/- The mesh of 32 devices as 4 rows of 8, and the closed forms of what the program computes from a device's number. -/
module

public import proofs.«01_k».proof.Proof.Gen.KernelIdeal
public import Mathlib.Data.Fin.VecNotation

@[expose] public section

noncomputable section

namespace Cert.KernelIdeal.Rsf

open Idealize.ShloMosaic Idealize.ShloMosaic.TcCoe
open Cert.KernelIdeal.Gen

set_option backward.proofsInPublic true

/-- The row of a device. -/
def pd (c : Dev nD) : Fin 4 := ⟨c.val / 8, by have h : c.val < 32 := c.isLt; omega⟩
/-- The place of a device in its row. -/
def qd (c : Dev nD) : Fin 8 := ⟨c.val % 8, by omega⟩
/-- The device at a row and a place. -/
def dev (p : Fin 4) (q : Fin 8) : Dev nD := ⟨8 * p.val + q.val, by show _ < 32; omega⟩

theorem pd_dev (p : Fin 4) (q : Fin 8) : pd (dev p q) = p := by
  apply Fin.ext; show (8 * p.val + q.val) / 8 = p.val; omega
theorem qd_dev (p : Fin 4) (q : Fin 8) : qd (dev p q) = q := by
  apply Fin.ext; show (8 * p.val + q.val) % 8 = q.val; omega
theorem dev_pd_qd (c : Dev nD) : dev (pd c) (qd c) = c := by
  apply Fin.ext; show 8 * (c.val / 8) + c.val % 8 = c.val; omega
theorem dev_inj {p p' : Fin 4} {q q' : Fin 8} (h : dev p q = dev p' q') : p = p' ∧ q = q' :=
  ⟨by rw [← pd_dev p q, h, pd_dev], by rw [← qd_dev p q, h, qd_dev]⟩

/-- The peers a device signals, in order: the 7 others of its row, then the 3 others of its column. -/
def peer (c : Dev nD) (i : Fin 10) : Dev nD :=
  if i.val < 7 then ⟨8 * (c.val / 8) + (c.val % 8 + i.val + 1) % 8, by have h : c.val < 32 := c.isLt; show _ < 32; omega⟩
  else ⟨8 * ((c.val / 8 + i.val - 6) % 4) + c.val % 8, by show _ < 32; omega⟩
/-- How much it signals each: 1 to a row peer, 8 to a column peer. -/
def peerAmt (i : Fin 10) : ℕ := if i.val < 7 then 1 else 8

theorem peer_row (c : Dev nD) (i : Fin 10) (h : i.val < 7) : pd (peer c i) = pd c ∧ qd (peer c i) ≠ qd c := by
  revert h; revert i; revert c; decide +kernel
theorem peer_col (c : Dev nD) (i : Fin 10) (h : ¬ i.val < 7) : qd (peer c i) = qd c ∧ pd (peer c i) ≠ pd c := by
  revert h; revert i; revert c; decide +kernel
theorem peer_inj (c : Dev nD) : Function.Injective (peer c) := by
  intro i j; revert j; revert i; revert c; decide +kernel

theorem dev1_eq (c : Dev nD) : k0_dev1 c = (peer c 0).val := by revert c; decide +kernel
theorem dev2_eq (c : Dev nD) : k0_dev2 c = (peer c 1).val := by revert c; decide +kernel
theorem dev3_eq (c : Dev nD) : k0_dev3 c = (peer c 2).val := by revert c; decide +kernel
theorem dev4_eq (c : Dev nD) : k0_dev4 c = (peer c 3).val := by revert c; decide +kernel
theorem dev5_eq (c : Dev nD) : k0_dev5 c = (peer c 4).val := by revert c; decide +kernel
theorem dev6_eq (c : Dev nD) : k0_dev6 c = (peer c 5).val := by revert c; decide +kernel
theorem dev7_eq (c : Dev nD) : k0_dev7 c = (peer c 6).val := by revert c; decide +kernel
theorem dev8_eq (c : Dev nD) : k0_dev8 c = (peer c 7).val := by revert c; decide +kernel
theorem dev9_eq (c : Dev nD) : k0_dev9 c = (peer c 8).val := by revert c; decide +kernel
theorem dev10_eq (c : Dev nD) : k0_dev10 c = (peer c 9).val := by revert c; decide +kernel

/-! The guards of the eight row sends and of their waits: the addressee is not the device itself. -/
theorem cond1_iff (c : Dev nD) : k0_cond1 c = 1#1 ↔ qd c ≠ 0 := by revert c; decide +kernel
theorem cond2_iff (c : Dev nD) : k0_cond2 c = 1#1 ↔ qd c ≠ 1 := by revert c; decide +kernel
theorem cond3_iff (c : Dev nD) : k0_cond3 c = 1#1 ↔ qd c ≠ 2 := by revert c; decide +kernel
theorem cond4_iff (c : Dev nD) : k0_cond4 c = 1#1 ↔ qd c ≠ 3 := by revert c; decide +kernel
theorem cond5_iff (c : Dev nD) : k0_cond5 c = 1#1 ↔ qd c ≠ 4 := by revert c; decide +kernel
theorem cond6_iff (c : Dev nD) : k0_cond6 c = 1#1 ↔ qd c ≠ 5 := by revert c; decide +kernel
theorem cond7_iff (c : Dev nD) : k0_cond7 c = 1#1 ↔ qd c ≠ 6 := by revert c; decide +kernel
theorem cond8_iff (c : Dev nD) : k0_cond8 c = 1#1 ↔ qd c ≠ 7 := by revert c; decide +kernel
theorem cond17_iff (c : Dev nD) : k0_cond17 c = 1#1 ↔ pd c ≠ 0 := by revert c; decide +kernel
theorem cond18_iff (c : Dev nD) : k0_cond18 c = 1#1 ↔ pd c ≠ 1 := by revert c; decide +kernel
theorem cond19_iff (c : Dev nD) : k0_cond19 c = 1#1 ↔ pd c ≠ 2 := by revert c; decide +kernel
theorem cond20_iff (c : Dev nD) : k0_cond20 c = 1#1 ↔ pd c ≠ 3 := by revert c; decide +kernel
theorem cond25_iff (c : Dev nD) : k0_cond25 c = 1#1 ↔ qd c ≠ 0 := by revert c; decide +kernel
theorem cond26_iff (c : Dev nD) : k0_cond26 c = 1#1 ↔ qd c ≠ 1 := by revert c; decide +kernel
theorem cond27_iff (c : Dev nD) : k0_cond27 c = 1#1 ↔ qd c ≠ 2 := by revert c; decide +kernel
theorem cond28_iff (c : Dev nD) : k0_cond28 c = 1#1 ↔ qd c ≠ 3 := by revert c; decide +kernel
theorem cond29_iff (c : Dev nD) : k0_cond29 c = 1#1 ↔ qd c ≠ 4 := by revert c; decide +kernel
theorem cond30_iff (c : Dev nD) : k0_cond30 c = 1#1 ↔ qd c ≠ 5 := by revert c; decide +kernel
theorem cond31_iff (c : Dev nD) : k0_cond31 c = 1#1 ↔ qd c ≠ 6 := by revert c; decide +kernel
theorem cond32_iff (c : Dev nD) : k0_cond32 c = 1#1 ↔ qd c ≠ 7 := by revert c; decide +kernel
theorem cond33_iff (c : Dev nD) : k0_cond33 c = 1#1 ↔ pd c ≠ 0 := by revert c; decide +kernel
theorem cond34_iff (c : Dev nD) : k0_cond34 c = 1#1 ↔ pd c ≠ 1 := by revert c; decide +kernel
theorem cond35_iff (c : Dev nD) : k0_cond35 c = 1#1 ↔ pd c ≠ 2 := by revert c; decide +kernel
theorem cond36_iff (c : Dev nD) : k0_cond36 c = 1#1 ↔ pd c ≠ 3 := by revert c; decide +kernel

/-! The addressee of each row send. -/
theorem dev11_eq (c : Dev nD) : k0_dev11 c = (dev (pd c) 0).val := by revert c; decide +kernel
theorem dev12_eq (c : Dev nD) : k0_dev12 c = (dev (pd c) 1).val := by revert c; decide +kernel
theorem dev13_eq (c : Dev nD) : k0_dev13 c = (dev (pd c) 2).val := by revert c; decide +kernel
theorem dev14_eq (c : Dev nD) : k0_dev14 c = (dev (pd c) 3).val := by revert c; decide +kernel
theorem dev15_eq (c : Dev nD) : k0_dev15 c = (dev (pd c) 4).val := by revert c; decide +kernel
theorem dev16_eq (c : Dev nD) : k0_dev16 c = (dev (pd c) 5).val := by revert c; decide +kernel
theorem dev17_eq (c : Dev nD) : k0_dev17 c = (dev (pd c) 6).val := by revert c; decide +kernel
theorem dev18_eq (c : Dev nD) : k0_dev18 c = (dev (pd c) 7).val := by revert c; decide +kernel
/-! The addressee of each column send. -/
theorem dev19_eq (c : Dev nD) : k0_dev19 c = (dev 0 (qd c)).val := by revert c; decide +kernel
theorem dev20_eq (c : Dev nD) : k0_dev20 c = (dev 1 (qd c)).val := by revert c; decide +kernel
theorem dev21_eq (c : Dev nD) : k0_dev21 c = (dev 2 (qd c)).val := by revert c; decide +kernel
theorem dev22_eq (c : Dev nD) : k0_dev22 c = (dev 3 (qd c)).val := by revert c; decide +kernel

/-! Where the column sends land and which semaphore they signal: block `pd c`. -/
theorem off22_eq (c : Dev nD) : k0_off22 c = ![(pd c).val] := by revert c; decide +kernel
theorem off24_eq (c : Dev nD) : k0_off24 c = ![(pd c).val] := by revert c; decide +kernel
theorem off26_eq (c : Dev nD) : k0_off26 c = ![(pd c).val] := by revert c; decide +kernel
theorem off28_eq (c : Dev nD) : k0_off28 c = ![(pd c).val] := by revert c; decide +kernel
theorem off23_eq (c : Dev nD) : k0_off23 c = ![512 * (pd c).val, 0] := by revert c; decide +kernel
theorem off25_eq (c : Dev nD) : k0_off25 c = ![512 * (pd c).val, 0] := by revert c; decide +kernel
theorem off27_eq (c : Dev nD) : k0_off27 c = ![512 * (pd c).val, 0] := by revert c; decide +kernel
theorem off29_eq (c : Dev nD) : k0_off29 c = ![512 * (pd c).val, 0] := by revert c; decide +kernel
/-! The block a device copies to itself. -/
theorem off30_eq (c : Dev nD) : k0_off30 c = ![(pd c).val, 0, 0] := by revert c; decide +kernel
theorem off31_eq (c : Dev nD) : k0_off31 c = ![512 * (pd c).val, 0] := by revert c; decide +kernel
theorem off40_eq (c : Dev nD) : k0_off40 c = ![512 * (pd c).val, 0] := by revert c; decide +kernel
theorem off41_eq (c : Dev nD) : k0_off41 c = ![512 * (pd c).val, 0] := by revert c; decide +kernel
theorem off42_eq (c : Dev nD) : k0_off42 c = ![512 * (pd c).val, 0] := by revert c; decide +kernel
theorem off43_eq (c : Dev nD) : k0_off43 c = ![512 * (pd c).val, 0] := by revert c; decide +kernel

/-- The row number and the place as the program's words. -/
def pword (c : Dev nD) : BitVec 32 := BitVec.ofNat 32 (pd c).val
def qword (c : Dev nD) : BitVec 32 := BitVec.ofNat 32 (qd c).val

/-- The guard of the wait on slot `n` of the row exchange. -/
theorem qguard_iff (c : Dev nD) (n : Fin 8) :
    Scalar.cmpi .ne (Scalar.extui (Scalar.cmpi .ne (qword c) (BitVec.ofNat 32 n.val)) : BitVec 32) 0#32 = 1#1 ↔ qd c ≠ n := by
  revert n; revert c; decide +kernel
/-- The guard of the wait on block `n` of the column exchange. -/
theorem pguard_iff (c : Dev nD) (n : Fin 4) :
    Scalar.cmpi .ne (Scalar.extui (Scalar.cmpi .ne (pword c) (BitVec.ofNat 32 n.val)) : BitVec 32) 0#32 = 1#1 ↔ pd c ≠ n := by
  revert n; revert c; decide +kernel

end Cert.KernelIdeal.Rsf

end
-- ==== Proof.Contents.lean ====
/- What each buffer of a device holds, as functions of every device's two inputs; the pieces each buffer is cut into;
   and what a load reads, a store leaves and a copy lands on such a piece. -/
module

public import proofs.«01_k».proof.Proof.Mesh
public import proofs.«01_k».proof.Proof.Gen.KernelIdeal.Skeleton
public import Idealize.ShloMosaic.Lib.ValueLayout
public import Idealize.ShloMosaic.Lib.Tactic

@[expose] public section

noncomputable section

namespace Cert.KernelIdeal.Rsf

open Idealize.ShloMosaic Idealize.ShloMosaic.TcCoe Idealize.ShloMosaic.ValueIdx
open Cert.KernelIdeal.Gen

set_option backward.proofsInPublic true

variable {F : FTy → Type} [FloatOps F]

/-! ## The values -/

/-- Columns `[128 g, 128 g + 128)` of the weight. -/
def wcol (w : Vec F S2048x2048 .bf16) (g : Fin 16) : Vec F S2048x128 .bf16 :=
  fun i => w (ix2 (i 0) ⟨128 * g.val + (i 1).val, by have h : (i 1).val < 128 := (i 1).isLt; omega⟩)

/-- The product of a device's rows with those columns, rounded to the result's type. -/
def blk (x : Vec F S64x2048 .bf16) (w : Vec F S2048x2048 .bf16) (g : Fin 16) : FVec F S64x128 .bf16 :=
  k0_pay6 (k0_pay1 x) (wcol w g)

theorem slices_half (b : Fin 2) : S64x128.Slices ![0, 64 * b.val] S64x64 := by revert b; decide

/-- The block for row `a` of the exchange's place `q`: half of one product, as it is stored. -/
def rowPay (x : Vec F S64x2048 .bf16) (w : Vec F S2048x2048 .bf16) (q : Fin 8) (a : Fin 4) : FVec F S1x64x64 .bf16 :=
  shapeCast S1x64x64 (extractStridedSlice S64x64 ![0, 64 * (q.val % 2)] (blk x w ⟨4 * a.val + q.val / 2, by omega⟩)
    (slices_half ⟨q.val % 2, by omega⟩)) shapeCasts_S64x64_S1x64x64

/-- All 32 blocks of a device: block `4 q + a` goes to place `q` first, to row `a` after. -/
def yval (x : Vec F S64x2048 .bf16) (w : Vec F S2048x2048 .bf16) : Vec F S32x64x64 .bf16 :=
  fun i => blk x w ⟨4 * ((i 0).val % 4) + (i 0).val / 8, by have h : (i 0).val < 32 := (i 0).isLt; omega⟩
    (ix2 (i 1) ⟨64 * ((i 0).val / 4 % 2) + (i 2).val, by have h : (i 2).val < 64 := (i 2).isLt; omega⟩)

theorem rowPay_apply (x : Vec F S64x2048 .bf16) (w : Vec F S2048x2048 .bf16) (q : Fin 8) (a : Fin 4) (u : Fin 1) (r s : Fin 64)
    (j : Fin 32) (hj : j.val = 4 * q.val + a.val) : rowPay x w q a (ix3 u r s) = yval x w (ix3 j r s) := by
  unfold rowPay
  rw [shapeCast_ab_1ab_apply]
  unfold yval extractStridedSlice
  have hg : (⟨4 * a.val + q.val / 2, by omega⟩ : Fin 16) = ⟨4 * (j.val % 4) + j.val / 8, by omega⟩ :=
    Fin.ext (by show 4 * a.val + q.val / 2 = 4 * (j.val % 4) + j.val / 8; omega)
  rw [hg]
  refine congrArg _ (funext fun d => Fin.ext ?_)
  match d with
  | ⟨0, _⟩ => show 0 + r.val = r.val; omega
  | ⟨1, _⟩ => show 64 * (q.val % 2) + s.val = 64 * (j.val / 4 % 2) + s.val; omega

section Values

variable (X : Dev nD → Vec F S64x2048 .bf16) (W : Dev nD → Vec F S2048x2048 .bf16)

/-- The product buffer of device `c`. -/
def ybuf (c : Dev nD) : Vec F S32x64x64 .bf16 := yval (X c) (W c)
/-- Its first exchange buffer: slot `q` is what place `q` of its row computed for its place. -/
def stbuf (c : Dev nD) : Vec F S8x4x64x64 .bf16 :=
  fun i => ybuf X W (dev (pd c) (i 0)) (ix3 ⟨4 * (qd c).val + (i 1).val, by have h : (i 1).val < 4 := (i 1).isLt; have := (qd c).isLt; omega⟩ (i 2) (i 3))
/-- Its second exchange buffer: for each row of the mesh, the 8 blocks of its own row stacked. -/
def s2buf (c : Dev nD) : Vec F S4x512x64 .bf16 :=
  fun i => stbuf X W c (ix4 ⟨(i 1).val / 64, by have h : (i 1).val < 512 := (i 1).isLt; omega⟩ (i 0) ⟨(i 1).val % 64, by omega⟩ (i 2))
/-- Its result: row block `p` is what the device of row `p` in its column stacked for its row. -/
def outbuf (c : Dev nD) : Vec F S2048x64 .bf16 :=
  fun i => s2buf X W (dev ⟨(i 0).val / 512, by have h : (i 0).val < 2048 := (i 0).isLt; omega⟩ (qd c))
    (ix3 (pd c) ⟨(i 0).val % 512, by omega⟩ (i 1))

end Values

/-! ## The pieces -/

/-- Block `4 q + a` of the product buffer. -/
def yRow (q : Fin 8) (a : Fin 4) : Finset S32x64x64.Idx := Finset.univ.filter fun i => (i 0).val = 4 * q.val + a.val
/-- The four blocks for place `q`. -/
def ySlab (q : Fin 8) : Finset S32x64x64.Idx := Finset.univ.filter fun i => (i 0).val / 4 = q.val
/-- Slot `q` of the first exchange buffer. -/
def stSlot (q : Fin 8) : Finset S8x4x64x64.Idx := Finset.univ.filter fun i => (i 0).val = q.val
/-- Block `a` of slot `q`. -/
def stRow (q : Fin 8) (a : Fin 4) : Finset S8x4x64x64.Idx := Finset.univ.filter fun i => (i 0).val = q.val ∧ (i 1).val = a.val
/-- Slab `a` of the second exchange buffer. -/
def s2Slab (a : Fin 4) : Finset S4x512x64.Idx := Finset.univ.filter fun i => (i 0).val = a.val
/-- Block `q` of slab `a`. -/
def s2Row (a : Fin 4) (q : Fin 8) : Finset S4x512x64.Idx := Finset.univ.filter fun i => (i 0).val = a.val ∧ (i 1).val / 64 = q.val
/-- Row block `p` of the result. -/
def outBlk (p : Fin 4) : Finset S2048x64.Idx := Finset.univ.filter fun i => (i 0).val / 512 = p.val

/-- Membership in a unit rectangle, coordinate by coordinate. -/
theorem mem_unit3 {n0 n1 n2 : ℕ} {off size : Fin 3 → ℕ} {inb} (i : (⟨3, ![n0, n1, n2]⟩ : Shape).Idx) :
    i ∈ (Rect.unit (s := ⟨3, ![n0, n1, n2]⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  exact ⟨fun h => ⟨h 0, h 1, h 2⟩, fun h a => match a with | ⟨0, _⟩ => h.1 | ⟨1, _⟩ => h.2.1 | ⟨2, _⟩ => h.2.2⟩
theorem mem_unit4 {n0 n1 n2 n3 : ℕ} {off size : Fin 4 → ℕ} {inb} (i : (⟨4, ![n0, n1, n2, n3]⟩ : Shape).Idx) :
    i ∈ (Rect.unit (s := ⟨4, ![n0, n1, n2, n3]⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) ∧ (off 3 ≤ (i 3).val ∧ (i 3).val < off 3 + size 3) := by
  rw [Rect.mem_set_unit]
  exact ⟨fun h => ⟨h 0, h 1, h 2, h 3⟩, fun h a => match a with | ⟨0, _⟩ => h.1 | ⟨1, _⟩ => h.2.1 | ⟨2, _⟩ => h.2.2.1 | ⟨3, _⟩ => h.2.2.2⟩
theorem mem_unit2 {n0 n1 : ℕ} {off size : Fin 2 → ℕ} {inb} (i : (⟨2, ![n0, n1]⟩ : Shape).Idx) :
    i ∈ (Rect.unit (s := ⟨2, ![n0, n1]⟩) off size inb).set ↔
      (off 0 ≤ (i 0).val ∧ (i 0).val < off 0 + size 0) ∧ (off 1 ≤ (i 1).val ∧ (i 1).val < off 1 + size 1) := by
  rw [Rect.mem_set_unit]
  exact ⟨fun h => ⟨h 0, h 1⟩, fun h a => match a with | ⟨0, _⟩ => h.1 | ⟨1, _⟩ => h.2⟩

theorem set_yRow {off : Fin 3 → ℕ} {inb} (q : Fin 8) (a : Fin 4) (h : off = ![4 * q.val + a.val, 0, 0]) :
    (Rect.unit (s := S32x64x64) off S1x64x64.size inb).set = yRow q a := by
  subst h; ext i
  have h1 : (i 1).val < 64 := (i 1).isLt
  have h2 : (i 2).val < 64 := (i 2).isLt
  rw [mem_unit3]; unfold yRow; rw [Finset.mem_filter]
  simp [S1x64x64]; omega

theorem set_ySlab {off : Fin 3 → ℕ} {inb} (q : Fin 8) (h : off = ![4 * q.val, 0, 0]) :
    (Rect.unit (s := S32x64x64) off S4x64x64.size inb).set = ySlab q := by
  subst h; ext i
  have h1 : (i 1).val < 64 := (i 1).isLt
  have h2 : (i 2).val < 64 := (i 2).isLt
  rw [mem_unit3]; unfold ySlab; rw [Finset.mem_filter]
  simp [S4x64x64]; omega

theorem set_stSlot {off : Fin 4 → ℕ} {inb} (q : Fin 8) (h : off = ![q.val, 0, 0, 0]) :
    (Rect.unit (s := S8x4x64x64) off S1x4x64x64.size inb).set = stSlot q := by
  subst h; ext i
  have h1 : (i 1).val < 4 := (i 1).isLt
  have h2 : (i 2).val < 64 := (i 2).isLt
  have h3 : (i 3).val < 64 := (i 3).isLt
  rw [mem_unit4]; unfold stSlot; rw [Finset.mem_filter]
  simp [S1x4x64x64]; omega

theorem set_stRow {off : Fin 4 → ℕ} {inb} (q : Fin 8) (a : Fin 4) (h : off = ![q.val, a.val, 0, 0]) :
    (Rect.unit (s := S8x4x64x64) off S1x1x64x64.size inb).set = stRow q a := by
  subst h; ext i
  have h2 : (i 2).val < 64 := (i 2).isLt
  have h3 : (i 3).val < 64 := (i 3).isLt
  rw [mem_unit4]; unfold stRow; rw [Finset.mem_filter]
  simp [S1x1x64x64]; omega

theorem set_s2Slab {off : Fin 3 → ℕ} {inb} (a : Fin 4) (h : off = ![a.val, 0, 0]) :
    (Rect.unit (s := S4x512x64) off S1x512x64.size inb).set = s2Slab a := by
  subst h; ext i
  have h1 : (i 1).val < 512 := (i 1).isLt
  have h2 : (i 2).val < 64 := (i 2).isLt
  rw [mem_unit3]; unfold s2Slab; rw [Finset.mem_filter]
  simp [S1x512x64]; omega

theorem set_s2Row {off : Fin 3 → ℕ} {inb} (a : Fin 4) (q : Fin 8) (h : off = ![a.val, 64 * q.val, 0]) :
    (Rect.unit (s := S4x512x64) off S1x64x64.size inb).set = s2Row a q := by
  subst h; ext i
  have h2 : (i 2).val < 64 := (i 2).isLt
  rw [mem_unit3]; unfold s2Row; rw [Finset.mem_filter]
  simp [S1x64x64]; omega

theorem set_outBlk {off : Fin 2 → ℕ} {inb} (p : Fin 4) (h : off = ![512 * p.val, 0]) :
    (Rect.unit (s := S2048x64) off S512x64.size inb).set = outBlk p := by
  subst h; ext i
  have h1 : (i 1).val < 64 := (i 1).isLt
  rw [mem_unit2]; unfold outBlk; rw [Finset.mem_filter]
  simp [S512x64]; omega

/-! Each piece cut further. -/
theorem ySlab_eq (q : Fin 8) : ySlab q = Finset.univ.biUnion (yRow q) := by
  ext i; have h0 : (i 0).val < 32 := (i 0).isLt
  simp only [ySlab, yRow, Finset.mem_filter, Finset.mem_univ, true_and, Finset.mem_biUnion]
  exact ⟨fun h => ⟨⟨(i 0).val % 4, by omega⟩, by show _ = _ + (i 0).val % 4; omega⟩, fun ⟨a, h⟩ => by have := a.isLt; omega⟩
theorem yRow_disj (q : Fin 8) (a a' : Fin 4) (h : a ≠ a') : Disjoint (yRow q a) (yRow q a') := by
  rw [Finset.disjoint_left]; intro i
  simp only [yRow, Finset.mem_filter, Finset.mem_univ, true_and]
  intro h1 h2; exact h (Fin.ext (by omega))
theorem y_cover : Finset.univ.biUnion ySlab = Finset.univ := by
  ext i; have h0 : (i 0).val < 32 := (i 0).isLt
  simp only [ySlab, Finset.mem_filter, Finset.mem_univ, true_and, Finset.mem_biUnion, iff_true]
  exact ⟨⟨(i 0).val / 4, by omega⟩, rfl⟩
theorem ySlab_disj (q q' : Fin 8) (h : q ≠ q') : Disjoint (ySlab q) (ySlab q') := by
  rw [Finset.disjoint_left]; intro i
  simp only [ySlab, Finset.mem_filter, Finset.mem_univ, true_and]
  intro h1 h2; exact h (Fin.ext (by omega))
theorem stSlot_eq (q : Fin 8) : stSlot q = Finset.univ.biUnion (stRow q) := by
  ext i; have h1 : (i 1).val < 4 := (i 1).isLt
  simp only [stSlot, stRow, Finset.mem_filter, Finset.mem_univ, true_and, Finset.mem_biUnion]
  exact ⟨fun h => ⟨⟨(i 1).val, h1⟩, h, rfl⟩, fun ⟨a, h⟩ => h.1⟩
theorem stRow_disj (q : Fin 8) (a a' : Fin 4) (h : a ≠ a') : Disjoint (stRow q a) (stRow q a') := by
  rw [Finset.disjoint_left]; intro i
  simp only [stRow, Finset.mem_filter, Finset.mem_univ, true_and]
  intro h1 h2; exact h (Fin.ext (by omega))
theorem st_cover : Finset.univ.biUnion stSlot = Finset.univ := by
  ext i
  simp only [stSlot, Finset.mem_filter, Finset.mem_univ, true_and, Finset.mem_biUnion, iff_true]
  exact ⟨i 0, rfl⟩
theorem stSlot_disj (q q' : Fin 8) (h : q ≠ q') : Disjoint (stSlot q) (stSlot q') := by
  rw [Finset.disjoint_left]; intro i
  simp only [stSlot, Finset.mem_filter, Finset.mem_univ, true_and]
  intro h1 h2; exact h (Fin.ext (by omega))
theorem s2Slab_eq (a : Fin 4) : s2Slab a = Finset.univ.biUnion (s2Row a) := by
  ext i; have h1 : (i 1).val < 512 := (i 1).isLt
  simp only [s2Slab, s2Row, Finset.mem_filter, Finset.mem_univ, true_and, Finset.mem_biUnion]
  exact ⟨fun h => ⟨⟨(i 1).val / 64, by omega⟩, h, rfl⟩, fun ⟨q, h⟩ => h.1⟩
theorem s2Row_disj (a : Fin 4) (q q' : Fin 8) (h : q ≠ q') : Disjoint (s2Row a q) (s2Row a q') := by
  rw [Finset.disjoint_left]; intro i
  simp only [s2Row, Finset.mem_filter, Finset.mem_univ, true_and]
  intro h1 h2; exact h (Fin.ext (by omega))
theorem s2_cover : Finset.univ.biUnion s2Slab = Finset.univ := by
  ext i
  simp only [s2Slab, Finset.mem_filter, Finset.mem_univ, true_and, Finset.mem_biUnion, iff_true]
  exact ⟨i 0, rfl⟩
theorem s2Slab_disj (a a' : Fin 4) (h : a ≠ a') : Disjoint (s2Slab a) (s2Slab a') := by
  rw [Finset.disjoint_left]; intro i
  simp only [s2Slab, Finset.mem_filter, Finset.mem_univ, true_and]
  intro h1 h2; exact h (Fin.ext (by omega))
theorem out_cover : Finset.univ.biUnion outBlk = Finset.univ := by
  ext i; have h0 : (i 0).val < 2048 := (i 0).isLt
  simp only [outBlk, Finset.mem_filter, Finset.mem_univ, true_and, Finset.mem_biUnion, iff_true]
  exact ⟨⟨(i 0).val / 512, by omega⟩, rfl⟩
theorem outBlk_disj (p p' : Fin 4) (h : p ≠ p') : Disjoint (outBlk p) (outBlk p') := by
  rw [Finset.disjoint_left]; intro i
  simp only [outBlk, Finset.mem_filter, Finset.mem_univ, true_and]
  intro h1 h2; exact h (Fin.ext (by omega))

/-! ## Writing through a view -/

/-- A write that puts in what the view reads off `T` leaves `T` under the view. -/
theorem write_eq_of_read {κ : Kind} {sp : Space} {s : Shape} {e : EltTy} {Val : EltTy → Type} (v : View sig κ sp s e)
    (f T : v.ty.Contents Val) (w : s.Idx → Val e) (h : ∀ x, w x = v.read Val T x) :
    ∀ i ∈ v.set, v.write Val f w Finset.univ i = T i := by
  intro i hi
  obtain ⟨x, -, rfl⟩ := Finset.mem_map.mp hi
  rw [View.write_emb_of_mem _ _ (Finset.mem_univ x), h x, View.read_apply, cast_cast, cast_eq]

end Cert.KernelIdeal.Rsf

end
-- ==== Proof.Schedule.lean ====
/- The protocol: which semaphore of a device waits for whom, for how much, and what each payment hands over; what every
   device owes, in the order it pays; and the levels by which its waits are ordered. -/
module

public import proofs.«01_k».proof.Proof.Contents
public import proofs.«01_k».proof.Proof.Gen.KernelIdeal.Launch
public import Idealize.ShloMosaic.Lib.Pipeline.Launch
public import Idealize.ShloMosaic.Lib.Pipeline.Kit

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]

/-! ## The ghost state: the pipeline's copy, and one whose payers are named by their device -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## The semaphores by what they are for -/

/-- A device's own semaphores: its row copies' sources, its row copies' arrivals, the same two for its column copies. -/
abbrev Xi : Type := Fin 8 ⊕ Fin 8 ⊕ Fin 4 ⊕ Fin 4
/-- Those and the barrier's. -/
abbrev Ro : Type := Unit ⊕ Xi

@[match_pattern] abbrev rb : Ro := .inl ()
@[match_pattern] abbrev rs1 (q : Fin 8) : Ro := .inr (.inl q)
@[match_pattern] abbrev rr1 (q : Fin 8) : Ro := .inr (.inr (.inl q))
@[match_pattern] abbrev rs2 (p : Fin 4) : Ro := .inr (.inr (.inr (.inl p)))
@[match_pattern] abbrev rr2 (p : Fin 4) : Ro := .inr (.inr (.inr (.inr p)))

abbrev barS : Sem sig := (SemArray.scalar (sig.barrier 0 rfl) : Sems sig S_).sem

abbrev xsem : Xi → SemLoc sig
  | .inl q => .dma (cc0_scratch3.ix (ix1 q))
  | .inr (.inl q) => .dma (cc0_scratch4.ix (ix1 q))
  | .inr (.inr (.inl p)) => .dma (cc0_scratch5.ix (ix1 p))
  | .inr (.inr (.inr p)) => .dma (cc0_scratch6.ix (ix1 p))
abbrev rsem : Ro → SemLoc sig
  | .inl _ => .reg barS
  | .inr x => xsem x

/-- What a semaphore is for; the staging copies' are for nothing here. -/
def roleOf : SemLoc sig → Option Ro
  | .reg _ => some rb
  | .dma k =>
    if h3 : k.val < 3 then none
    else if h11 : k.val < 11 then some (rs1 ⟨k.val - 3, by omega⟩)
    else if h19 : k.val < 19 then some (rr1 ⟨k.val - 11, by omega⟩)
    else if h23 : k.val < 23 then some (rs2 ⟨k.val - 19, by omega⟩)
    else some (rr2 ⟨k.val - 23, by have h : k.val < 27 := k.isLt; omega⟩)

theorem roleOf_rsem (r : Ro) : roleOf (rsem r) = some r := by revert r; decide +kernel
theorem rsem_inj {r r' : Ro} (h : rsem r = rsem r') : r = r' :=
  Option.some.inj (by rw [← roleOf_rsem r, ← roleOf_rsem r', h])

abbrev cell (c : Dev nD) (r : Ro) : GSem nD τ sig := ((c : Thread nD τ), rsem r)
theorem cell_inj {c c' : Dev nD} {r r' : Ro} (h : cell c r = cell c' r') : c = c' ∧ r = r' :=
  ⟨congrArg (fun g : GSem nD τ sig => g.1.1) h, rsem_inj (congrArg Prod.snd h)⟩

/-! ## The buffers, and pieces of them as resources -/

abbrev yM : Memref sig .tc .vmem S32x64x64 .bf16 := Memref.whole cc0_scratch0
abbrev stM : Memref sig .tc .vmem S8x4x64x64 .bf16 := Memref.whole cc0_scratch1
abbrev s2M : Memref sig .tc .vmem S4x512x64 .bf16 := Memref.whole cc0_scratch2
abbrev xM : Memref sig .tc .vmem S64x2048 .bf16 := Memref.whole cc0_stg0_0
abbrev wM : Memref sig .tc .vmem S2048x2048 .bf16 := Memref.whole cc0_stg1_0
abbrev oM : Memref sig .tc .vmem S2048x64 .bf16 := Memref.whole cc0_stg2_0

/-- A piece `I` of device `c`'s product buffer, with contents `f`; -/
def yPt (c : Dev nD) (I : Finset S32x64x64.Idx) (f : Vec F S32x64x64 .bf16) : sProp 𝕄 :=
  (yM.view.loc (c : Thread nD τ) : Loc nD τ sig) ↦[I]{fullShare} f
/-- of its first exchange buffer; -/
def stPt (c : Dev nD) (I : Finset S8x4x64x64.Idx) (f : Vec F S8x4x64x64 .bf16) : sProp 𝕄 :=
  (stM.view.loc (c : Thread nD τ) : Loc nD τ sig) ↦[I]{fullShare} f
/-- of its second; -/
def s2Pt (c : Dev nD) (I : Finset S4x512x64.Idx) (f : Vec F S4x512x64 .bf16) : sProp 𝕄 :=
  (s2M.view.loc (c : Thread nD τ) : Loc nD τ sig) ↦[I]{fullShare} f
/-- of its result. -/
def oPt (c : Dev nD) (I : Finset S2048x64.Idx) (f : Vec F S2048x64 .bf16) : sProp 𝕄 :=
  (oM.view.loc (c : Thread nD τ) : Loc nD τ sig) ↦[I]{fullShare} f

omit [FloatOps F] in
instance yPt_storable (c : Dev nD) (I) (f) : BI.Storable (upEmb : UEmb _ 𝕄) (yPt (F := F) c I f) := by unfold yPt; infer_instance
omit [FloatOps F] in
instance stPt_storable (c : Dev nD) (I) (f) : BI.Storable (upEmb : UEmb _ 𝕄) (stPt (F := F) c I f) := by unfold stPt; infer_instance
omit [FloatOps F] in
instance s2Pt_storable (c : Dev nD) (I) (f) : BI.Storable (upEmb : UEmb _ 𝕄) (s2Pt (F := F) c I f) := by unfold s2Pt; infer_instance
omit [FloatOps F] in
instance oPt_storable (c : Dev nD) (I) (f) : BI.Storable (upEmb : UEmb _ 𝕄) (oPt (F := F) c I f) := by unfold oPt; infer_instance

/-- The credit of one copy along a row, and of one along a column. -/
def N1 : ℕ := (((stM : Memref sig .tc .vmem S8x4x64x64 .bf16).slice (Rect.unit (s := S8x4x64x64) ![0, 0, 0, 0] S1x4x64x64.size
  (by decide)) (fun _ => rfl)).squeeze S4x64x64 squeezes_S1x4x64x64_S4x64x64).view.dmaCredit
def N2 : ℕ := ((oM : Memref sig .tc .vmem S2048x64 .bf16).slice (Rect.unit (s := S2048x64) ![0, 0] S512x64.size
  (by decide)) (fun _ => rfl)).view.dmaCredit
theorem N1_pos : 0 < N1 := View.dmaCredit_pos _ (by decide)
theorem N2_pos : 0 < N2 := View.dmaCredit_pos _ (by decide)

/-! ## The schedule -/

/-- Who pays into a semaphore of device `d`. -/
def payers (d : Dev nD) : Ro → Finset (Dev nD)
  | .inl _ => Finset.univ.image (peer d)
  | rs1 q => if q = qd d then ∅ else {d}
  | rr1 q => if q = qd d then ∅ else {dev (pd d) q}
  | rs2 p => if p = pd d then ∅ else {d}
  | rr2 p => if p = pd d then ∅ else {dev p (qd d)}

/-- How much device `e` pays. -/
def amt (d : Dev nD) (r : Ro) (e : Dev nD) : ℕ := match r with
  | .inl _ => if pd e = pd d then 1 else 8
  | rs1 _ => N1
  | rr1 _ => N1
  | rs2 _ => N2
  | rr2 _ => N2

variable (X : Dev nD → Vec F S64x2048 .bf16) (W : Dev nD → Vec F S2048x2048 .bf16)

/-- What that hands device `d`: at the barrier, a row peer's slot for `d`, or a column peer's row block for `d`, to be
    written; a copy's source gives the source back, an arrival the block that came. -/
def hand (d : Dev nD) (r : Ro) (e : Dev nD) : sProp 𝕄 := match r with
  | .inl _ => if pd e = pd d then iprop(∃ f, stPt e (stSlot (qd d)) f) else iprop(∃ f, oPt e (outBlk (pd d)) f)
  | rs1 q => yPt d (ySlab q) (ybuf X W d)
  | rr1 q => stPt d (stSlot q) (stbuf X W d)
  | rs2 p => s2Pt d (s2Slab p) (s2buf X W d)
  | rr2 p => oPt d (outBlk p) (outbuf X W d)

instance hand_storable (d : Dev nD) (r : Ro) (e : Dev nD) : BI.Storable (upEmb : UEmb _ 𝕄) (hand X W d r e) := by
  unfold hand
  (repeat' split) <;> infer_instance

/-- One round of each semaphore. -/
def Rd : Rounds.Schedule (GSem nD τ sig) (Dev nD) 𝕄 where
  duties g r := match roleOf g.2 with
    | some ro => if r = 0 ∧ g.1.2 = .tc then payers g.1.1 ro else ∅
    | none => ∅
  unitless _ := False
  amount g _ e := match roleOf g.2 with
    | some ro => amt g.1.1 ro e
    | none => 1
  payload g _ e := match roleOf g.2 with
    | some ro => hand X W g.1.1 ro e
    | none => iprop(emp)
  amount_pos g _ e _ := by
    split
    · unfold amt; split
      · split <;> decide
      · exact N1_pos
      · exact N1_pos
      · exact N2_pos
      · exact N2_pos
    · decide

instance Rd_payload_storable (g : GSem nD τ sig) (r : ℕ) (d : Dev nD) :
    BI.Storable (upEmb : UEmb _ 𝕄) ((Rd X W).payload g r d) := by
  unfold Rd
  dsimp only
  split <;> infer_instance

theorem duties_cell (d : Dev nD) (r : Ro) : (Rd X W).duties (cell d r) 0 = payers d r := by
  unfold Rd; dsimp only [cell]; rw [roleOf_rsem]; exact if_pos ⟨rfl, rfl⟩
theorem amount_cell (d : Dev nD) (r : Ro) (e : Dev nD) : (Rd X W).amount (cell d r) 0 e = amt d r e := by
  unfold Rd; dsimp only [cell]; rw [roleOf_rsem]
theorem payload_cell (d : Dev nD) (r : Ro) (e : Dev nD) : (Rd X W).payload (cell d r) 0 e = hand X W d r e := by
  unfold Rd; dsimp only [cell]; rw [roleOf_rsem]
theorem duties_later (g : GSem nD τ sig) (r : ℕ) (h : 1 ≤ r) : (Rd X W).duties g r = ∅ := by
  unfold Rd; dsimp only
  split
  · rw [if_neg (fun h' => by omega)]
  · rfl
theorem duties_none (d : Dev nD) (ro : Ro) (h : payers d ro = ∅) (r : ℕ) : (Rd X W).duties (cell d ro) r = ∅ := by
  rcases Nat.eq_zero_or_pos r with rfl | hr
  · rw [duties_cell, h]
  · exact duties_later X W _ r hr

theorem expect_cell (d : Dev nD) (r : Ro) : (Rd X W).expect (cell d r) 0 = ∑ e ∈ payers d r, amt d r e := by
  unfold Schedule.expect Schedule.amountOf
  rw [duties_cell]
  exact Finset.sum_congr rfl fun e _ => amount_cell X W d r e
theorem expect_bar (d : Dev nD) : (Rd X W).expect (cell d rb) 0 = 31 := by
  rw [expect_cell]; revert d; unfold payers amt; decide +kernel
theorem expect_one (d e : Dev nD) (r : Ro) (n : ℕ) (h : payers d r = {e}) (ha : amt d r e = n) :
    (Rd X W).expect (cell d r) 0 = n := by rw [expect_cell, h, Finset.sum_singleton, ha]
theorem rest_one (d e : Dev nD) (r : Ro) (h : payers d r = {e}) :
    bigSep ((Rd X W).duties (cell d r) 0 \ ∅) (fun x => (Rd X W).payload (cell d r) 0 x) = hand X W d r e := by
  rw [Finset.sdiff_empty, duties_cell, h, bigSep_singleton, payload_cell]
/-- All the barrier's payments: over the peers in order. -/
theorem rest_bar (d : Dev nD) :
    bigSep ((Rd X W).duties (cell d rb) 0 \ ∅) (fun x => (Rd X W).payload (cell d rb) 0 x)
      = bigSep Finset.univ fun i : Fin 10 => hand X W d rb (peer d i) := by
  rw [Finset.sdiff_empty, duties_cell]
  unfold payers
  rw [bigSep_image_of_injOn (fun a _ b _ h => peer_inj d h)]
  exact bigSep_congr fun i _ => payload_cell X W d rb (peer d i)

theorem peer_symm (c : Dev nD) (i : Fin 10) : c ∈ payers (peer c i) rb := by
  revert i; revert c; unfold payers; decide +kernel

/-! ## What a device owes -/

section Owed
variable {k : ℕ}

/-- The sum over the places from `n` on. -/
def from' (n : ℕ) (f : Fin k → CellTallies nD τ sig Unit) : CellTallies nD τ sig Unit :=
  ∑ i ∈ Finset.univ.filter (fun i : Fin k => n ≤ i.val), f i

theorem from_step (n : Fin k) (f : Fin k → CellTallies nD τ sig Unit) : from' n.val f = from' (n.val + 1) f + f n := by
  unfold from'
  rw [show (Finset.univ.filter fun i : Fin k => n.val ≤ i.val) = insert n (Finset.univ.filter fun i : Fin k => n.val + 1 ≤ i.val) from by
    ext i; simp only [Finset.mem_filter, Finset.mem_univ, true_and, Finset.mem_insert, Fin.ext_iff]; omega]
  rw [Finset.sum_insert (by simp), add_comm]

theorem from_end (f : Fin k → CellTallies nD τ sig Unit) : from' k f = 0 := by
  unfold from'
  rw [show (Finset.univ.filter fun i : Fin k => k ≤ i.val) = ∅ from by
    ext i; simp]
  rfl

theorem from_zero (f : Fin k → CellTallies nD τ sig Unit) : from' 0 f = ∑ i, f i := by
  unfold from'; simp

theorem from_pos {n : ℕ} {f : Fin k → CellTallies nD τ sig Unit} {g : GSem nD τ sig} {u : Unit} (h : 0 < from' n f g u) :
    ∃ i : Fin k, n ≤ i.val ∧ 0 < f i g u := by
  unfold from' at h
  rw [Finset.sum_apply, Finsupp.finset_sum_apply] at h
  by_contra hn
  refine absurd h (Nat.not_lt.mpr (Nat.le_of_eq (Finset.sum_eq_zero fun i hi => ?_)))
  rcases Nat.eq_zero_or_pos (f i g u) with h0 | h0
  · exact h0
  · exact absurd ⟨i, (Finset.mem_filter.mp hi).2, h0⟩ hn
end Owed

/-- At the barrier, its `i`-th peer; -/
def bars (c : Dev nD) (i : Fin 10) : CellTallies nD τ sig Unit := tallyAt (cell (peer c i) rb) () (peerAmt i)
/-- along its row; -/
def w1 (c : Dev nD) (q : Fin 8) : CellTallies nD τ sig Unit :=
  if q = qd c then 0 else tallyAt (cell (dev (pd c) q) (rr1 (qd c))) () N1
/-- along its column. -/
def w2 (c : Dev nD) (p : Fin 4) : CellTallies nD τ sig Unit :=
  if p = pd c then 0 else tallyAt (cell (dev p (qd c)) (rr2 (pd c))) () N2

/-- What is owed once the first `sg` peers are signalled and the copies before the `n1`-th, the `n2`-th are issued. -/
def Owed (c : Dev nD) (sg n1 n2 : ℕ) : CellTallies nD τ sig Unit :=
  from' sg (bars c) + from' n1 (w1 c) + from' n2 (w2 c)

theorem Owed_bar (c : Dev nD) (i : Fin 10) (n1 n2 : ℕ) : Owed c i.val n1 n2 = Owed c (i.val + 1) n1 n2 + bars c i := by
  unfold Owed; rw [from_step]; simp only [add_assoc, add_comm, add_left_comm]
theorem Owed_w1 (c : Dev nD) (sg : ℕ) (q : Fin 8) (n2 : ℕ) : Owed c sg q.val n2 = Owed c sg (q.val + 1) n2 + w1 c q := by
  unfold Owed; rw [from_step]; simp only [add_assoc, add_comm, add_left_comm]
theorem Owed_w2 (c : Dev nD) (sg n1 : ℕ) (p : Fin 4) : Owed c sg n1 p.val = Owed c sg n1 (p.val + 1) + w2 c p := by
  unfold Owed; rw [from_step]; simp only [add_assoc, add_comm, add_left_comm]
theorem Owed_end (c : Dev nD) : Owed c 10 8 4 = 0 := by
  unfold Owed; rw [from_end, from_end, from_end, add_zero, add_zero]

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem Owed_pos {c : Dev nD} {sg n1 n2 : ℕ} {g : GSem nD τ sig} {u : Unit} (h : 0 < Owed c sg n1 n2 g u) :
    (sg < 10 ∧ ∃ d, g = cell d rb) ∨ (n1 < 8 ∧ ∃ d q, g = cell d (rr1 q)) ∨ (n2 < 4 ∧ ∃ d p, g = cell d (rr2 p)) := by
  unfold Owed at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, hi, h⟩ := from_pos h
      exact .inl ⟨by have := i.isLt; omega, _, tallyAt_pos h⟩
    · obtain ⟨i, hi, h⟩ := from_pos h
      refine .inr (.inl ⟨by have := i.isLt; omega, ?_⟩)
      unfold w1 at h
      split at h
      · exact absurd h (Nat.lt_irrefl 0)
      · exact ⟨_, _, tallyAt_pos h⟩
  · obtain ⟨i, hi, h⟩ := from_pos h
    refine .inr (.inr ⟨by have := i.isLt; omega, ?_⟩)
    unfold w2 at h
    split at h
    · exact absurd h (Nat.lt_irrefl 0)
    · exact ⟨_, _, tallyAt_pos h⟩

/-! ## The levels: the barrier below the row arrivals below the column arrivals, everything else at the bottom -/

def lvR : Option Ro → ℕ
  | some (.inl _) => 1
  | some (rr1 _) => 2
  | some (rr2 _) => 3
  | _ => 0
def L (g : GSem nD τ sig) : Finset Unit := if g.1.2 = .tc then {()} else ∅
def lv (g : GSem nD τ sig) (_ : Unit) : ℕ := lvR (roleOf g.2)

theorem L_of_ne (g : GSem nD τ sig) (h : g.1.2 ≠ .tc) : L g = ∅ := if_neg h
theorem L_tc (c : Dev nD) (sm : SemLoc sig) : L ((c : Thread nD τ), sm) = {()} := if_pos rfl

/-- The levels, as a resource. -/
def levs : sProp 𝕄 := levAts L lv
instance levs_persistent : BI.Persistent (levs (F := F)) := by unfold levs; infer_instance

/-- A device may wait at a level below everything it still owes. -/
theorem mayWait (c : Dev nD) (sm : SemLoc sig) (cut sg n1 n2 : ℕ) (hsm : lvR (roleOf sm) ≤ cut)
    (h0 : sg < 10 → cut < 1) (h1 : n1 < 8 → cut < 2) (h2 : n2 < 4 → cut < 3) :
    levs (F := F) ⊢ MayWait (c : Thread nD τ) sm () (Owed c sg n1 n2) := by
  unfold levs
  refine MayOwe.of_cut (L := L) (lev := lv) cut (fun p hp => by rw [Finset.mem_singleton.mp hp, L_tc]; exact Finset.mem_singleton_self _)
    (fun g u hg => ?_) (fun p hp => by rw [Finset.mem_singleton.mp hp]; exact hsm) (fun g u hg => ?_)
  · rcases Owed_pos hg with ⟨_, d, rfl⟩ | ⟨_, d, q, rfl⟩ | ⟨_, d, p, rfl⟩ <;> rw [L_tc] <;> exact Finset.mem_singleton_self _
  · rcases Owed_pos hg with ⟨h, d, rfl⟩ | ⟨h, d, q, rfl⟩ | ⟨h, d, p, rfl⟩ <;> unfold lv <;> dsimp only [cell] <;> rw [roleOf_rsem]
    · exact h0 h
    · exact h1 h
    · exact h2 h

end Cert.KernelIdeal.Rsf

end
-- ==== Proof.Copies.lean ====
/- What a load reads off a piece, and that what a store or a copy puts into a piece is what the piece is to hold. -/
module

public import proofs.«01_k».proof.Proof.Schedule

@[expose] public section

noncomputable section

namespace Cert.KernelIdeal.Rsf

open Idealize.ShloMosaic Idealize.ShloMosaic.TcCoe Idealize.ShloMosaic.ValueIdx
open Cert.KernelIdeal.Gen

set_option backward.proofsInPublic true

variable {F : FTy → Type} [FloatOps F]

/-- One axis's element of a unit rectangle. -/
theorem emb_unit {s : Shape} (off size : Fin s.rank → ℕ) (inb) (x : (Rect.unit (s := s) off size inb).shape.Idx) (a : Fin s.rank) :
    ((Rect.unit (s := s) off size inb).emb x a).val = off a + (x a).val := by
  show off a + 1 * (x a).val = _
  rw [Nat.one_mul]

/-! To show something of every index, show it of every tuple of coordinates. -/
theorem all_ix2 {n0 n1 : ℕ} {P : (⟨2, ![n0, n1]⟩ : Shape).Idx → Prop} (h : ∀ a b, P (ix2 a b)) (x) : P x := eq_ix2 x ▸ h _ _
theorem all_ix3 {n0 n1 n2 : ℕ} {P : (⟨3, ![n0, n1, n2]⟩ : Shape).Idx → Prop} (h : ∀ a b c, P (ix3 a b c)) (x) : P x := eq_ix3 x ▸ h _ _ _
theorem all_ix4 {n0 n1 n2 n3 : ℕ} {P : (⟨4, ![n0, n1, n2, n3]⟩ : Shape).Idx → Prop} (h : ∀ a b c d, P (ix4 a b c d)) (x) : P x := eq_ix4 x ▸ h _ _ _ _

section Loads
variable {e : EltTy}

/-- The elements a load through the whole of a buffer covers. -/
theorem setOn_load (b : Ref sig .tc) (off size : Fin b.ty.shape.rank → ℕ) (inb) :
    (Memref.whole b : Memref sig .tc _ _ _).view.setOn (Rect.unit (s := b.ty.shape) off size inb).toLoadRect.set = (Rect.unit (s := b.ty.shape) off size inb).set := by
  ext i
  simp only [View.setOn, Finset.mem_map]
  constructor
  · rintro ⟨j, hj, rfl⟩; exact hj
  · exact fun h => ⟨i, h, rfl⟩
/-- Those a store covers. -/
theorem setOn_store (b : Ref sig .tc) (off size : Fin b.ty.shape.rank → ℕ) (inb) :
    ((Memref.whole b : Memref sig .tc _ _ _).access (Rect.unit (s := b.ty.shape) off size inb)).setOn Finset.univ = (Rect.unit (s := b.ty.shape) off size inb).set := by
  rw [View.setOn_univ]; exact View.set_slice_whole b _
end Loads

/-! ## Copies along a row -/

theorem src1_set {off : Fin 3 → ℕ} {inb} {hr} (q : Fin 8) (h : off = ![4 * q.val, 0, 0]) :
    (yM.slice (Rect.unit (s := S32x64x64) off S4x64x64.size inb) hr).view.set = ySlab q :=
  (View.set_slice_whole cc0_scratch0 _).trans (set_ySlab q h)
theorem dst1_set {off : Fin 4 → ℕ} {inb} {hr} {hs} (q : Fin 8) (h : off = ![q.val, 0, 0, 0]) :
    ((stM.slice (Rect.unit (s := S8x4x64x64) off S1x4x64x64.size inb) hr).squeeze S4x64x64 hs).view.set = stSlot q :=
  (View.set_reshape _ _).trans ((View.set_slice_whole cc0_scratch1 _).trans (set_stSlot q h))

theorem src1_read {off : Fin 3 → ℕ} {inb} {hr} (q : Fin 8) (h : off = ![4 * q.val, 0, 0]) (f : Vec F S32x64x64 .bf16)
    (a : Fin 4) (r s : Fin 64) (j : Fin 32) (hj : j.val = 4 * q.val + a.val) :
    (yM.slice (Rect.unit (s := S32x64x64) off S4x64x64.size inb) hr).view.read (Elt F) f (ix3 a r s) = f (ix3 j r s) := by
  subst h
  refine congrArg f (funext fun d => Fin.ext ?_)
  refine (emb_unit (s := S32x64x64) _ _ inb (ix3 a r s) d).trans ?_
  match d with
  | ⟨0, _⟩ => exact hj.symm
  | ⟨1, _⟩ => exact Nat.zero_add _
  | ⟨2, _⟩ => exact Nat.zero_add _

theorem dst1_read {off : Fin 4 → ℕ} {inb} {hr} {hs} (q : Fin 8) (h : off = ![q.val, 0, 0, 0]) (f : Vec F S8x4x64x64 .bf16)
    (a : Fin 4) (r s : Fin 64) :
    ((stM.slice (Rect.unit (s := S8x4x64x64) off S1x4x64x64.size inb) hr).squeeze S4x64x64 hs).view.read (Elt F) f (ix3 a r s) = f (ix4 q a r s) := by
  subst h
  show f ((Rect.unit (s := S8x4x64x64) _ S1x4x64x64.size inb).emb (Shape.reshapeEquiv _ (ix3 a r s))) = _
  rw [reshapeEquiv_ix3_1abc]
  refine congrArg f (funext fun d => Fin.ext ?_)
  refine (emb_unit (s := S8x4x64x64) _ _ inb (ix4 (⟨0, Nat.one_pos⟩ : Fin 1) a r s) d).trans ?_
  match d with
  | ⟨0, _⟩ => exact Nat.add_zero _
  | ⟨1, _⟩ => exact Nat.zero_add _
  | ⟨2, _⟩ => exact Nat.zero_add _
  | ⟨3, _⟩ => exact Nat.zero_add _

/-! ## Copies along a column -/

theorem src2_set {off : Fin 3 → ℕ} {inb} {hr} {hs} (p : Fin 4) (h : off = ![p.val, 0, 0]) :
    ((s2M.slice (Rect.unit (s := S4x512x64) off S1x512x64.size inb) hr).squeeze S512x64 hs).view.set = s2Slab p :=
  (View.set_reshape _ _).trans ((View.set_slice_whole cc0_scratch2 _).trans (set_s2Slab p h))
theorem dst2_set {off : Fin 2 → ℕ} {inb} {hr} (p : Fin 4) (h : off = ![512 * p.val, 0]) :
    (oM.slice (Rect.unit (s := S2048x64) off S512x64.size inb) hr).view.set = outBlk p :=
  (View.set_slice_whole cc0_stg2_0 _).trans (set_outBlk p h)

theorem src2_read {off : Fin 3 → ℕ} {inb} {hr} {hs} (p : Fin 4) (h : off = ![p.val, 0, 0]) (f : Vec F S4x512x64 .bf16)
    (i : Fin 512) (j : Fin 64) :
    ((s2M.slice (Rect.unit (s := S4x512x64) off S1x512x64.size inb) hr).squeeze S512x64 hs).view.read (Elt F) f (ix2 i j) = f (ix3 p i j) := by
  subst h
  show f ((Rect.unit (s := S4x512x64) _ S1x512x64.size inb).emb (Shape.reshapeEquiv _ (ix2 i j))) = _
  rw [reshapeEquiv_ix2_1ab]
  refine congrArg f (funext fun d => Fin.ext ?_)
  refine (emb_unit (s := S4x512x64) _ _ inb (ix3 (⟨0, Nat.one_pos⟩ : Fin 1) i j) d).trans ?_
  match d with
  | ⟨0, _⟩ => exact Nat.add_zero _
  | ⟨1, _⟩ => exact Nat.zero_add _
  | ⟨2, _⟩ => exact Nat.zero_add _

theorem dst2_read {off : Fin 2 → ℕ} {inb} {hr} (p : Fin 4) (h : off = ![512 * p.val, 0]) (f : Vec F S2048x64 .bf16)
    (i : Fin 512) (j : Fin 64) (n : Fin 2048) (hn : n.val = 512 * p.val + i.val) :
    (oM.slice (Rect.unit (s := S2048x64) off S512x64.size inb) hr).view.read (Elt F) f (ix2 i j) = f (ix2 n j) := by
  subst h
  refine congrArg f (funext fun d => Fin.ext ?_)
  refine (emb_unit (s := S2048x64) _ _ inb (ix2 i j) d).trans ?_
  match d with
  | ⟨0, _⟩ => exact hn.symm
  | ⟨1, _⟩ => exact Nat.zero_add _

/-! ## Rows -/

theorem yRow_read {off : Fin 3 → ℕ} {inb} (q : Fin 8) (a : Fin 4) (h : off = ![4 * q.val + a.val, 0, 0]) (f : Vec F S32x64x64 .bf16)
    (u : Fin 1) (r s : Fin 64) (j : Fin 32) (hj : j.val = 4 * q.val + a.val) :
    (yM.access (Rect.unit (s := S32x64x64) off S1x64x64.size inb)).read (Elt F) f (ix3 u r s) = f (ix3 j r s) := by
  subst h
  refine congrArg f (funext fun d => Fin.ext ?_)
  refine (emb_unit (s := S32x64x64) _ _ inb (ix3 u r s) d).trans ?_
  match d with
  | ⟨0, _⟩ => show 4 * q.val + a.val + u.val = j.val; omega
  | ⟨1, _⟩ => exact Nat.zero_add _
  | ⟨2, _⟩ => exact Nat.zero_add _
theorem stRow_read {off : Fin 4 → ℕ} {inb} (q : Fin 8) (a : Fin 4) (h : off = ![q.val, a.val, 0, 0]) (f : Vec F S8x4x64x64 .bf16)
    (u v : Fin 1) (r s : Fin 64) :
    (stM.access (Rect.unit (s := S8x4x64x64) off S1x1x64x64.size inb)).read (Elt F) f (ix4 u v r s) = f (ix4 q a r s) := by
  subst h
  refine congrArg f (funext fun d => Fin.ext ?_)
  refine (emb_unit (s := S8x4x64x64) _ _ inb (ix4 u v r s) d).trans ?_
  match d with
  | ⟨0, _⟩ => show q.val + u.val = q.val; omega
  | ⟨1, _⟩ => show a.val + v.val = a.val; omega
  | ⟨2, _⟩ => exact Nat.zero_add _
  | ⟨3, _⟩ => exact Nat.zero_add _
theorem s2Row_read {off : Fin 3 → ℕ} {inb} (a : Fin 4) (q : Fin 8) (h : off = ![a.val, 64 * q.val, 0]) (f : Vec F S4x512x64 .bf16)
    (u : Fin 1) (r s : Fin 64) (j : Fin 512) (hj : j.val = 64 * q.val + r.val) :
    (s2M.access (Rect.unit (s := S4x512x64) off S1x64x64.size inb)).read (Elt F) f (ix3 u r s) = f (ix3 a j s) := by
  subst h
  refine congrArg f (funext fun d => Fin.ext ?_)
  refine (emb_unit (s := S4x512x64) _ _ inb (ix3 u r s) d).trans ?_
  match d with
  | ⟨0, _⟩ => show a.val + u.val = a.val; omega
  | ⟨1, _⟩ => exact hj.symm
  | ⟨2, _⟩ => exact Nat.zero_add _
theorem s2Slab_read {off : Fin 3 → ℕ} {inb} (p : Fin 4) (h : off = ![p.val, 0, 0]) (f : Vec F S4x512x64 .bf16)
    (u : Fin 1) (i : Fin 512) (j : Fin 64) :
    (s2M.access (Rect.unit (s := S4x512x64) off S1x512x64.size inb)).read (Elt F) f (ix3 u i j) = f (ix3 p i j) := by
  subst h
  refine congrArg f (funext fun d => Fin.ext ?_)
  refine (emb_unit (s := S4x512x64) _ _ inb (ix3 u i j) d).trans ?_
  match d with
  | ⟨0, _⟩ => show p.val + u.val = p.val; omega
  | ⟨1, _⟩ => exact Nat.zero_add _
  | ⟨2, _⟩ => exact Nat.zero_add _
theorem wcol_read {off : Fin 2 → ℕ} {inb} (g : Fin 16) (h : off = ![0, 128 * g.val]) (f : Vec F S2048x2048 .bf16) :
    (wM.access (Rect.unit (s := S2048x2048) off S2048x128.size inb)).read (Elt F) f = wcol f g := by
  subst h
  funext i
  refine congrArg f (funext fun d => Fin.ext ?_)
  refine (emb_unit (s := S2048x2048) _ _ inb i d).trans ?_
  match d with
  | ⟨0, _⟩ => exact Nat.zero_add _
  | ⟨1, _⟩ => rfl

/-! ## What lands -/

section Lands
variable (X : Dev nD → Vec F S64x2048 .bf16) (W : Dev nD → Vec F S2048x2048 .bf16)

/-- A copy of slab `q` along `c`'s row, into slot `qd c` of place `q`'s first exchange buffer. -/
theorem land1 (c : Dev nD) (q : Fin 8) {off : Fin 3 → ℕ} {inb} {hr} (h : off = ![4 * q.val, 0, 0])
    {off' : Fin 4 → ℕ} {inb'} {hr'} {hs} (h' : off' = ![(qd c).val, 0, 0, 0]) (fd : Vec F S8x4x64x64 .bf16) :
    ∀ i ∈ stSlot (qd c), ((stM.slice (Rect.unit (s := S8x4x64x64) off' S1x4x64x64.size inb') hr').squeeze S4x64x64 hs).view.write (Elt F) fd
      ((yM.slice (Rect.unit (s := S32x64x64) off S4x64x64.size inb) hr).view.read (Elt F) (ybuf X W c)) Finset.univ i
        = stbuf X W (dev (pd c) q) i := by
  intro i hi
  replace hi : i ∈ ((stM.slice (Rect.unit (s := S8x4x64x64) off' S1x4x64x64.size inb') hr').squeeze S4x64x64 hs).view.set := by
    rw [dst1_set (qd c) h']; exact hi
  refine write_eq_of_read ((stM.slice (Rect.unit (s := S8x4x64x64) off' S1x4x64x64.size inb') hr').squeeze S4x64x64 hs).view fd (stbuf X W (dev (pd c) q)) _ (all_ix3 fun a r s => ?_) i hi
  refine (src1_read q h _ a r s (⟨4 * q.val + a.val, by omega⟩) rfl).trans (Eq.trans ?_ (dst1_read (qd c) h' _ a r s).symm)
  unfold stbuf
  show _ = ybuf X W (dev (pd (dev (pd c) q)) (qd c)) (ix3 ⟨4 * (qd (dev (pd c) q)).val + a.val, _⟩ r s)
  simp only [pd_dev, qd_dev, dev_pd_qd]

/-- The result at row `i` of row block `p`. -/
theorem outbuf_block (c : Dev nD) (p : Fin 4) (i : Fin 512) (j : Fin 64) :
    outbuf X W c (ix2 ⟨512 * p.val + i.val, by omega⟩ j) = s2buf X W (dev p (qd c)) (ix3 (pd c) i j) := by
  unfold outbuf
  have hd : (⟨(512 * p.val + i.val) / 512, by omega⟩ : Fin 4) = p := Fin.ext (by show (512 * p.val + i.val) / 512 = p.val; omega)
  have hm : (⟨(512 * p.val + i.val) % 512, by omega⟩ : Fin 512) = i := Fin.ext (by show (512 * p.val + i.val) % 512 = i.val; omega)
  exact congrArg₂ (fun (a : Fin 4) (b : Fin 512) => s2buf X W (dev a (qd c)) (ix3 (pd c) b j)) hd hm

/-- A copy of slab `p` along `c`'s column, into row block `pd c` of row `p`'s result. -/
theorem land2 (c : Dev nD) (p : Fin 4) {off : Fin 3 → ℕ} {inb} {hr} {hs} (h : off = ![p.val, 0, 0])
    {off' : Fin 2 → ℕ} {inb'} {hr'} (h' : off' = ![512 * (pd c).val, 0]) (fd : Vec F S2048x64 .bf16) :
    ∀ i ∈ outBlk (pd c), (oM.slice (Rect.unit (s := S2048x64) off' S512x64.size inb') hr').view.write (Elt F) fd
      (((s2M.slice (Rect.unit (s := S4x512x64) off S1x512x64.size inb) hr).squeeze S512x64 hs).view.read (Elt F) (s2buf X W c)) Finset.univ i
        = outbuf X W (dev p (qd c)) i := by
  intro i hi
  replace hi : i ∈ (oM.slice (Rect.unit (s := S2048x64) off' S512x64.size inb') hr').view.set := by
    rw [dst2_set (pd c) h']; exact hi
  refine write_eq_of_read (oM.slice (Rect.unit (s := S2048x64) off' S512x64.size inb') hr').view fd (outbuf X W (dev p (qd c))) _ (all_ix2 fun a b => ?_) i hi
  have hp := (pd c).isLt
  refine (src2_read p h _ a b).trans (Eq.trans ?_ (dst2_read (pd c) h' _ a b (⟨512 * (pd c).val + a.val, by omega⟩) rfl).symm)
  rw [outbuf_block X W (dev p (qd c)) (pd c) a b, pd_dev, qd_dev, dev_pd_qd]

/-- A product block stored. -/
theorem storeY (c : Dev nD) (q : Fin 8) (a : Fin 4) {off : Fin 3 → ℕ} {inb} (h : off = ![4 * q.val + a.val, 0, 0]) (f : Vec F S32x64x64 .bf16) :
    ∀ i ∈ yRow q a, (yM.access (Rect.unit (s := S32x64x64) off S1x64x64.size inb)).write (Elt F) f (rowPay (X c) (W c) q a) Finset.univ i = ybuf X W c i := by
  intro i hi
  rw [← set_yRow (inb := inb) q a h, ← View.set_slice_whole cc0_scratch0] at hi
  refine write_eq_of_read (yM.access (Rect.unit (s := S32x64x64) off S1x64x64.size inb)) f (ybuf X W c) _ (all_ix3 fun u r s => ?_) i hi
  exact (rowPay_apply (X c) (W c) q a u r s (⟨4 * q.val + a.val, by omega⟩) rfl).trans
    (yRow_read q a h _ u r s (⟨4 * q.val + a.val, by omega⟩) rfl).symm

/-- A device's own block put into its own slot. -/
theorem storeSt (c : Dev nD) (a : Fin 4) {off : Fin 3 → ℕ} {inb} (h : off = ![4 * (qd c).val + a.val, 0, 0])
    {off' : Fin 4 → ℕ} {inb'} (h' : off' = ![(qd c).val, a.val, 0, 0]) (f : Vec F S8x4x64x64 .bf16)
    {h1 : S1x64x64.ShapeCasts S64x64} {h2 : S64x64.ShapeCasts S1x1x64x64} :
    ∀ i ∈ stRow (qd c) a, (stM.access (Rect.unit (s := S8x4x64x64) off' S1x1x64x64.size inb')).write (Elt F) f
      (shapeCast S1x1x64x64 (shapeCast S64x64 ((yM.access (Rect.unit (s := S32x64x64) off S1x64x64.size inb)).read (Elt F) (ybuf X W c) : Vec F S1x64x64 .bf16) h1) h2) Finset.univ i
        = stbuf X W c i := by
  intro i hi
  rw [← set_stRow (inb := inb') (qd c) a h', ← View.set_slice_whole cc0_scratch1] at hi
  refine write_eq_of_read (stM.access (Rect.unit (s := S8x4x64x64) off' S1x1x64x64.size inb')) f (stbuf X W c) _ (all_ix4 fun u v r s => ?_) i hi
  have hq := (qd c).isLt
  refine Eq.trans ?_ (stRow_read (qd c) a h' _ u v r s).symm
  refine (shapeCast_apply _ h2 _ (ix2 r s) (by
      rw [Shape.rowMajor_val_four, Shape.rowMajor_val_two]
      show r.val * 64 + s.val = ((u.val * 1 + v.val) * 64 + r.val) * 64 + s.val
      omega)).trans ?_
  refine (shapeCast_1ab_ab_apply _ h1 r s).trans ?_
  refine (yRow_read (qd c) a h _ _ r s (⟨4 * (qd c).val + a.val, by omega⟩) rfl).trans ?_
  unfold stbuf
  show _ = ybuf X W (dev (pd c) (qd c)) (ix3 ⟨4 * (qd c).val + a.val, _⟩ r s)
  rw [dev_pd_qd]

/-- A block of the first exchange buffer put into the second. -/
theorem storeS2 (c : Dev nD) (a : Fin 4) (q : Fin 8) {off : Fin 4 → ℕ} {inb} (h : off = ![q.val, a.val, 0, 0])
    {off' : Fin 3 → ℕ} {inb'} (h' : off' = ![a.val, 64 * q.val, 0]) (f : Vec F S4x512x64 .bf16)
    {h1 : S1x1x64x64.ShapeCasts S64x64} {h2 : S64x64.ShapeCasts S1x64x64} :
    ∀ i ∈ s2Row a q, (s2M.access (Rect.unit (s := S4x512x64) off' S1x64x64.size inb')).write (Elt F) f
      (shapeCast S1x64x64 (shapeCast S64x64 ((stM.access (Rect.unit (s := S8x4x64x64) off S1x1x64x64.size inb)).read (Elt F) (stbuf X W c) : Vec F S1x1x64x64 .bf16) h1) h2) Finset.univ i
        = s2buf X W c i := by
  intro i hi
  rw [← set_s2Row (inb := inb') a q h', ← View.set_slice_whole cc0_scratch2] at hi
  refine write_eq_of_read (s2M.access (Rect.unit (s := S4x512x64) off' S1x64x64.size inb')) f (s2buf X W c) _ (all_ix3 fun u r s => ?_) i hi
  have hq := q.isLt
  refine Eq.trans ?_ (s2Row_read a q h' _ u r s (⟨64 * q.val + r.val, by omega⟩) rfl).symm
  refine (shapeCast_ab_1ab_apply _ h2 u r s).trans ?_
  refine (shapeCast_apply _ h1 _ (ix4 (0 : Fin 1) (0 : Fin 1) r s) (by
      rw [Shape.rowMajor_val_four, Shape.rowMajor_val_two]
      show ((0 * 1 + 0) * 64 + r.val) * 64 + s.val = r.val * 64 + s.val
      omega)).trans ?_
  refine (stRow_read q a h _ _ _ r s).trans ?_
  unfold s2buf
  have hd : (⟨(64 * q.val + r.val) / 64, by omega⟩ : Fin 8) = q := Fin.ext (by show (64 * q.val + r.val) / 64 = q.val; omega)
  have hm : (⟨(64 * q.val + r.val) % 64, by omega⟩ : Fin 64) = r := Fin.ext (by show (64 * q.val + r.val) % 64 = r.val; omega)
  show _ = stbuf X W c (ix4 ⟨(64 * q.val + r.val) / 64, _⟩ a ⟨(64 * q.val + r.val) % 64, _⟩ s)
  rw [hd, hm]

/-- A device's own slab put into its own row block of the result. -/
theorem storeOut (c : Dev nD) {off : Fin 3 → ℕ} {inb} (h : off = ![(pd c).val, 0, 0])
    {off' : Fin 2 → ℕ} {inb'} (h' : off' = ![512 * (pd c).val, 0]) (f : Vec F S2048x64 .bf16) {h1 : S1x512x64.ShapeCasts S512x64} :
    ∀ i ∈ outBlk (pd c), (oM.access (Rect.unit (s := S2048x64) off' S512x64.size inb')).write (Elt F) f
      (shapeCast S512x64 ((s2M.access (Rect.unit (s := S4x512x64) off S1x512x64.size inb)).read (Elt F) (s2buf X W c) : Vec F S1x512x64 .bf16) h1) Finset.univ i
        = outbuf X W c i := by
  intro i hi
  rw [← set_outBlk (inb := inb') (pd c) h', ← View.set_slice_whole cc0_stg2_0] at hi
  refine write_eq_of_read (oM.access (Rect.unit (s := S2048x64) off' S512x64.size inb')) f (outbuf X W c) _ (all_ix2 fun a b => ?_) i hi
  have hp := (pd c).isLt
  refine (shapeCast_1ab_ab_apply _ h1 a b).trans ?_
  refine (s2Slab_read (pd c) h _ _ a b).trans ?_
  refine Eq.trans ?_ (dst2_read (hr := fun _ => rfl) (inb := inb') (pd c) h' (outbuf X W c) a b (⟨512 * (pd c).val + a.val, by omega⟩) rfl).symm
  rw [outbuf_block X W c (pd c) a b, dev_pd_qd]
end Lands

/-! ## The semaphores of an array by their place -/

theorem semAt {α : Type} {n : ℕ} (a : SemArray α ⟨1, ![n]⟩) {off : Fin 1 → ℕ} {inb} {hs} (i : Fin n) (h : off = ![i.val]) :
    ((a.slice (Rect.unit (s := ⟨1, ![n]⟩) off S1.size inb)).squeeze S_ hs).sem = a.ix (ix1 i) := by
  subst h
  refine congrArg a.ix (funext fun d => Fin.ext ?_)
  refine (emb_unit (s := ⟨1, ![n]⟩) _ _ inb _ d).trans ?_
  match d with
  | ⟨0, _⟩ => exact Nat.add_eq_left.mpr (Nat.lt_one_iff.mp (Fin.isLt _))

end Cert.KernelIdeal.Rsf

end
-- ==== Proof.State.lean ====
/- What a device holds at a place of its program, by how far it has come: how many of its peers it has signalled, how many
   blocks it has stored, how many copies it has passed, and so on. -/
module

public import proofs.«01_k».proof.Proof.Copies

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]

local notation "𝕄" => MT nD τ sig Unit (Elt F) ℕ UU ℕ

abbrev 𝒱₀ : Variants := Variants.none

/-- Running `pr` on device `c`'s core to `Q`. -/
abbrev wpc {α : Type} (c : Dev nD) (pr : Prog (TpuEff nD τ sig (Elt F) Λ₀ .tc) α) (Q : α → sProp 𝕄) : sProp 𝕄 :=
  wp frame (wpE (defs₀ (F := F)) 𝒱₀ (c : Thread nD τ) none) Set.univ pr Q

variable (X : Dev nD → Vec F S64x2048 .bf16) (W : Dev nD → Vec F S2048x2048 .bf16) (K : Dev nD × Ro → ℕ)

/-! ## What every device knows -/

/-- Every semaphore is the protocol's and at its first round, and the levels are these. -/
def recs : sProp 𝕄 :=
  iprop((bigSep Finset.univ fun dr : Dev nD × Ro => cellInv ER (Rd X W) (K dr) (cell dr.1 dr.2))
    ∗ (bigSep Finset.univ fun dr : Dev nD × Ro => reached ER (cell dr.1 dr.2) 0) ∗ levs (F := F))

instance recs_persistent : BI.Persistent (recs X W K) := by unfold recs; infer_instance

theorem recs_inv (d : Dev nD) (r : Ro) : recs X W K ⊢ cellInv ER (Rd X W) (K (d, r)) (cell d r) := by
  have h : (bigSep Finset.univ fun dr : Dev nD × Ro => cellInv ER (Rd X W) (K dr) (cell dr.1 dr.2) : sProp 𝕄)
      ⊢ cellInv ER (Rd X W) (K (d, r)) (cell d r) := bigSep_elim (Finset.mem_univ (d, r))
  unfold recs; iintro ⟨H, -, -⟩
  iapply h; iexact H
theorem recs_reached (d : Dev nD) (r : Ro) : recs X W K ⊢ reached ER (cell d r) 0 := by
  have h : (bigSep Finset.univ fun dr : Dev nD × Ro => reached ER (cell dr.1 dr.2) 0 : sProp 𝕄)
      ⊢ reached ER (cell d r) 0 := bigSep_elim (Finset.mem_univ (d, r))
  unfold recs; iintro ⟨-, H, -⟩
  iapply h; iexact H

/-- What it owes, whatever it has waited for. -/
def ow (c : Dev nD) (O : CellTallies nD τ sig Unit) : sProp 𝕄 := iprop(∃ V, owes (c : Thread nD τ) O V)

/-! ## What it holds, item by item -/

section Parts
variable (c : Dev nD)

def xP : sProp 𝕄 := (xM.view.loc (c : Thread nD τ) : Loc nD τ sig) ↦{fullShare} X c
def wP : sProp 𝕄 := (wM.view.loc (c : Thread nD τ) : Loc nD τ sig) ↦{fullShare} W c

/-- For its `i`-th peer: before it signals, the token of that payment and what it hands over. -/
def aC (sg : ℕ) (i : Fin 10) : sProp 𝕄 :=
  if i.val < sg then iprop(emp) else iprop(dutyTok ER (cell (peer c i) rb) 0 c ∗ hand X W (peer c i) rb c)
def bC (b : ℕ) : sProp 𝕄 :=
  if b = 0 then iprop(cred (tallyAt (cell c rb) () 31) ∗ atPos ER (cell c rb) 0 ∅ 0) else atPos ER (cell c rb) 1 ∅ 0

/-- When block `a` for place `q` is stored. -/
def rk (q : Fin 8) (a : Fin 4) : ℕ := 8 * (q.val / 2) + 2 * a.val + q.val % 2
/-- Which place and row the `y`-th block stored is for, and the columns it is made from. -/
def yq (y : ℕ) : Fin 8 := ⟨2 * (y / 8 % 4) + y % 2, by omega⟩
def ya (y : ℕ) : Fin 4 := ⟨y % 8 / 2, by omega⟩
def yg (y : ℕ) : Fin 16 := ⟨4 * (ya y).val + (yq y).val / 2, by omega⟩

def yR (y : ℕ) (q : Fin 8) (a : Fin 4) : sProp 𝕄 :=
  if rk q a < y then yPt c (yRow q a) (ybuf X W c) else iprop(∃ f, yPt c (yRow q a) f)
def yC (y n1 : ℕ) (q : Fin 8) : sProp 𝕄 :=
  if q.val < n1 ∧ q ≠ qd c then iprop(emp) else bigSep Finset.univ (yR X W c y q)

/-- The copy to place `q` of its row: the tokens of both its ends until it is issued, then the credit of its source, then
    the source. -/
def s1C (n1 e1 : ℕ) (q : Fin 8) : sProp 𝕄 :=
  if q = qd c then atPos ER (cell c (rs1 q)) 0 ∅ 0
  else if q.val < e1 then iprop(atPos ER (cell c (rs1 q)) 1 ∅ 0 ∗ yPt c (ySlab q) (ybuf X W c))
  else if q.val < n1 then iprop(cred (tallyAt (cell c (rs1 q)) () N1) ∗ atPos ER (cell c (rs1 q)) 0 ∅ 0)
  else iprop((dutyTok ER (cell c (rs1 q)) 0 c ∗ dutyTok ER (cell (dev (pd c) q) (rr1 (qd c))) 0 c) ∗ atPos ER (cell c (rs1 q)) 0 ∅ 0)
/-- Where that copy goes, from the barrier on. -/
def d1C (b n1 : ℕ) (q : Fin 8) : sProp 𝕄 :=
  if b = 0 ∨ q.val < n1 ∨ q = qd c then iprop(emp) else iprop(∃ f, stPt (dev (pd c) q) (stSlot (qd c)) f)

/-- The blocks of its own slot. -/
def gC (g : ℕ) (a : Fin 4) : sProp 𝕄 :=
  if a.val < g then stPt c (stRow (qd c) a) (stbuf X W c) else iprop(∃ f, stPt c (stRow (qd c) a) f)
/-- The arrival from place `q`. -/
def r1C (m1 : ℕ) (q : Fin 8) : sProp 𝕄 :=
  if q = qd c then atPos ER (cell c (rr1 q)) 0 ∅ 0
  else if q.val < m1 then iprop(atPos ER (cell c (rr1 q)) 1 ∅ 0 ∗ stPt c (stSlot q) (stbuf X W c))
  else iprop(cred (tallyAt (cell c (rr1 q)) () N1) ∗ atPos ER (cell c (rr1 q)) 0 ∅ 0)

def zR (z : ℕ) (p : Fin 4) (q : Fin 8) : sProp 𝕄 :=
  if 8 * p.val + q.val < z then s2Pt c (s2Row p q) (s2buf X W c) else iprop(∃ f, s2Pt c (s2Row p q) f)
def zC (z n2 : ℕ) (p : Fin 4) : sProp 𝕄 :=
  if p.val < n2 ∧ p ≠ pd c then iprop(emp) else bigSep Finset.univ (zR X W c z p)

def s2C (n2 e2 : ℕ) (p : Fin 4) : sProp 𝕄 :=
  if p = pd c then atPos ER (cell c (rs2 p)) 0 ∅ 0
  else if p.val < e2 then iprop(atPos ER (cell c (rs2 p)) 1 ∅ 0 ∗ s2Pt c (s2Slab p) (s2buf X W c))
  else if p.val < n2 then iprop(cred (tallyAt (cell c (rs2 p)) () N2) ∗ atPos ER (cell c (rs2 p)) 0 ∅ 0)
  else iprop((dutyTok ER (cell c (rs2 p)) 0 c ∗ dutyTok ER (cell (dev p (qd c)) (rr2 (pd c))) 0 c) ∗ atPos ER (cell c (rs2 p)) 0 ∅ 0)
def d2C (b n2 : ℕ) (p : Fin 4) : sProp 𝕄 :=
  if b = 0 ∨ p.val < n2 ∨ p = pd c then iprop(emp) else iprop(∃ f, oPt (dev p (qd c)) (outBlk (pd c)) f)

def oC (o : ℕ) : sProp 𝕄 :=
  if o = 0 then iprop(∃ f, oPt c (outBlk (pd c)) f) else oPt c (outBlk (pd c)) (outbuf X W c)
def r2C (m2 : ℕ) (p : Fin 4) : sProp 𝕄 :=
  if p = pd c then atPos ER (cell c (rr2 p)) 0 ∅ 0
  else if p.val < m2 then iprop(atPos ER (cell c (rr2 p)) 1 ∅ 0 ∗ oPt c (outBlk p) (outbuf X W c))
  else iprop(cred (tallyAt (cell c (rr2 p)) () N2) ∗ atPos ER (cell c (rr2 p)) 0 ∅ 0)

def aS (sg : ℕ) : sProp 𝕄 := bigSep Finset.univ (aC X W c sg)
def yS (y n1 : ℕ) : sProp 𝕄 := bigSep Finset.univ (yC X W c y n1)
def s1S (n1 e1 : ℕ) : sProp 𝕄 := bigSep Finset.univ (s1C X W c n1 e1)
def d1S (b n1 : ℕ) : sProp 𝕄 := bigSep Finset.univ (d1C (F := F) c b n1)
def gS (g : ℕ) : sProp 𝕄 := bigSep Finset.univ (gC X W c g)
def r1S (m1 : ℕ) : sProp 𝕄 := bigSep Finset.univ (r1C X W c m1)
def zS (z n2 : ℕ) : sProp 𝕄 := bigSep Finset.univ (zC X W c z n2)
def s2S (n2 e2 : ℕ) : sProp 𝕄 := bigSep Finset.univ (s2C X W c n2 e2)
def d2S (b n2 : ℕ) : sProp 𝕄 := bigSep Finset.univ (d2C (F := F) c b n2)
def r2S (m2 : ℕ) : sProp 𝕄 := bigSep Finset.univ (r2C X W c m2)

/-- All of it: `sg` peers signalled, the barrier passed if `b` is not 0, `y` blocks of the product stored, `n1` places of
    the row passed with its copies, `g` of its own blocks put in its own slot, `m1` places waited for, `z` blocks stacked,
    `n2` rows passed with its copies, its own block of the result stored if `o` is not 0, `m2` rows waited for, and the
    sources of `e1` and of `e2` copies back. -/
def St (sg b y n1 g m1 z n2 o m2 e1 e2 : ℕ) : sProp 𝕄 :=
  iprop(recs X W K ∗ ow c (Owed c sg n1 n2) ∗ xP X c ∗ wP W c ∗ aS X W c sg ∗ bC c b ∗ yS X W c y n1 ∗ s1S X W c n1 e1 ∗ d1S c b n1
    ∗ gS X W c g ∗ r1S X W c m1 ∗ zS X W c z n2 ∗ s2S X W c n2 e2 ∗ d2S c b n2 ∗ oC X W c o ∗ r2S X W c m2)

end Parts

end Cert.KernelIdeal.Rsf

end
-- ==== Proof.Moves.lean ====
/- Taking one item out of what a device holds and putting back what a step makes of it. -/
module

public import proofs.«01_k».proof.Proof.State

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]

local notation "𝕄" => MT nD τ sig Unit (Elt F) ℕ UU ℕ

variable (X : Dev nD → Vec F S64x2048 .bf16) (W : Dev nD → Vec F S2048x2048 .bf16) (c : Dev nD)

/-- One item of a family, and the family back once the item is as the changed family has it. -/
theorem take {n : ℕ} {Φ Ψ : Fin n → sProp 𝕄} (i : Fin n) {A B : sProp 𝕄} (hA : Φ i = A) (hB : Ψ i = B) (h : ∀ j, j ≠ i → Ψ j = Φ j) :
    bigSep Finset.univ Φ ⊢ iprop(A ∗ (B -∗ bigSep Finset.univ Ψ)) := by
  subst hA hB; exact bigSep_univ_update i h

/-- A family whose item at `i` changes to nothing or not at all is the changed family. -/
theorem ne_val {n : ℕ} {i j : Fin n} (h : j ≠ i) : j.val ≠ i.val := fun h' => h (Fin.ext h')

/-- A region that several disjoint pieces fill is held piece by piece. -/
theorem pieces {ℓ : Loc nD τ sig} {n : ℕ} {I : Finset (Idx ℓ)} {K : Fin n → Finset (Idx ℓ)} {f : Buf (Elt F) ℓ}
    (hI : ∀ i, i ∈ I ↔ ∃ a, i ∈ K a) (hd : ∀ a a', a ≠ a' → Disjoint (K a) (K a')) :
    (ℓ ↦[I]{fullShare} f : sProp 𝕄) = bigSep Finset.univ fun a => ℓ ↦[K a]{fullShare} f := by
  classical
  refine Eq.trans ?_ (pointsTo_biUnion Finset.univ K (fun a _ a' _ h => hd a a' h))
  congr 1
  ext i
  rw [hI, Finset.mem_biUnion]
  exact ⟨fun ⟨a, h⟩ => ⟨a, Finset.mem_univ _, h⟩, fun ⟨a, _, h⟩ => ⟨a, h⟩⟩

/-! ## The barrier -/

theorem aS_take {sg : ℕ} (hi : sg < 10) :
    aS X W c sg ⊢ iprop((dutyTok ER (cell (peer c ⟨sg, hi⟩) rb) 0 c ∗ hand X W (peer c ⟨sg, hi⟩) rb c) ∗ (emp -∗ aS X W c (sg + 1))) := by
  unfold aS
  refine take ⟨sg, hi⟩ (if_neg (Nat.lt_irrefl _)) (if_pos (Nat.lt_succ_self _)) fun j hj => ?_
  have := ne_val hj
  unfold aC
  exact if_congr (by dsimp only at this; omega) rfl rfl

/-! ## The blocks of the product -/

theorem rk_ne {q q' : Fin 8} {a a' : Fin 4} (h : ¬ (q = q' ∧ a = a')) : rk q a ≠ rk q' a' := by
  unfold rk; intro h'; exact h ⟨Fin.ext (by omega), Fin.ext (by omega)⟩
theorem rk_y {y : ℕ} (hy : y < 32) : rk (yq y) (ya y) = y := by unfold rk yq ya; dsimp only; omega
theorem rk_lt (q : Fin 8) (a : Fin 4) : rk q a < 32 := by unfold rk; omega
theorem rk_lt' (q : Fin 8) (a : Fin 4) : rk q a < 8 * (q.val / 2) + 8 := by unfold rk; omega

theorem yR_congr {y y' : ℕ} {q : Fin 8} {a : Fin 4} (h : Iff (rk q a < y) (rk q a < y')) : yR X W c y q a = yR X W c y' q a := by
  unfold yR; exact if_congr h rfl rfl

theorem yS_take {y n1 : ℕ} (hy : y < 32) (hn : n1 ≤ (yq y).val) :
    yS X W c y n1 ⊢ iprop((∃ f, yPt c (yRow (yq y) (ya y)) f) ∗ (yPt c (yRow (yq y) (ya y)) (ybuf X W c) -∗ yS X W c (y + 1) n1)) := by
  have h1 : yS X W c y n1 ⊢ iprop(bigSep Finset.univ (yR X W c y (yq y)) ∗ (bigSep Finset.univ (yR X W c (y + 1) (yq y)) -∗ yS X W c (y + 1) n1)) := by
    unfold yS
    refine take (yq y) (if_neg fun h => by omega) (if_neg fun h => by omega) fun j hj => ?_
    unfold yC
    split
    · rfl
    · refine bigSep_congr fun a _ => yR_congr X W c ?_
      have := rk_ne (q := j) (q' := yq y) (a := a) (a' := ya y) fun h => hj h.1
      rw [rk_y hy] at this; omega
  have h2 : bigSep Finset.univ (yR X W c y (yq y)) ⊢ iprop((∃ f, yPt c (yRow (yq y) (ya y)) f)
      ∗ (yPt c (yRow (yq y) (ya y)) (ybuf X W c) -∗ bigSep Finset.univ (yR X W c (y + 1) (yq y)))) := by
    refine take (ya y) (if_neg (by rw [rk_y hy]; omega)) (if_pos (by rw [rk_y hy]; omega)) fun j hj => yR_congr X W c ?_
    have := rk_ne (q := yq y) (q' := yq y) (a := j) (a' := ya y) fun h => hj h.2
    rw [rk_y hy] at this; omega
  iintro H
  ihave H := h1 $$ H
  icases H with ⟨H, B1⟩
  ihave H := h2 $$ H
  icases H with ⟨H, B2⟩
  isplitl [H]; · iexact H
  iintro H
  iapply B1; iapply B2; iexact H

/-- Before it is stored, a block may be looked at. -/
theorem yS_look {y n1 : ℕ} (hy : y < 32) (hn : n1 ≤ (yq y).val) :
    yS X W c y n1 ⊢ iprop((∃ f, yPt c (yRow (yq y) (ya y)) f) ∗ ((∃ f, yPt c (yRow (yq y) (ya y)) f) -∗ yS X W c y n1)) := by
  have h1 : yS X W c y n1 ⊢ iprop(bigSep Finset.univ (yR X W c y (yq y)) ∗ (bigSep Finset.univ (yR X W c y (yq y)) -∗ yS X W c y n1)) := by
    unfold yS
    exact take (yq y) (if_neg fun h => by omega) (if_neg fun h => by omega) fun j hj => rfl
  have h2 : bigSep Finset.univ (yR X W c y (yq y)) ⊢ iprop((∃ f, yPt c (yRow (yq y) (ya y)) f)
      ∗ ((∃ f, yPt c (yRow (yq y) (ya y)) f) -∗ bigSep Finset.univ (yR X W c y (yq y)))) :=
    take (ya y) (if_neg (by rw [rk_y hy]; omega)) (if_neg (by rw [rk_y hy]; omega)) fun j hj => rfl
  iintro H
  ihave H := h1 $$ H
  icases H with ⟨H, B1⟩
  ihave H := h2 $$ H
  icases H with ⟨H, B2⟩
  isplitl [H]; · iexact H
  iintro H
  iapply B1; iapply B2; iexact H

/-- Once all are stored: one of its own blocks. -/
theorem yS_own (n1 : ℕ) (a : Fin 4) :
    yS X W c 32 n1 ⊢ iprop(yPt c (yRow (qd c) a) (ybuf X W c) ∗ (yPt c (yRow (qd c) a) (ybuf X W c) -∗ yS X W c 32 n1)) := by
  have h1 : yS X W c 32 n1 ⊢ iprop(bigSep Finset.univ (yR X W c 32 (qd c)) ∗ (bigSep Finset.univ (yR X W c 32 (qd c)) -∗ yS X W c 32 n1)) := by
    unfold yS
    exact take (qd c) (if_neg fun h => h.2 rfl) (if_neg fun h => h.2 rfl) fun j hj => rfl
  have h2 : bigSep Finset.univ (yR X W c 32 (qd c)) ⊢ iprop(yPt c (yRow (qd c) a) (ybuf X W c)
      ∗ (yPt c (yRow (qd c) a) (ybuf X W c) -∗ bigSep Finset.univ (yR X W c 32 (qd c)))) :=
    take a (if_pos (rk_lt _ _)) (if_pos (rk_lt _ _)) fun j hj => rfl
  iintro H
  ihave H := h1 $$ H
  icases H with ⟨H, B1⟩
  ihave H := h2 $$ H
  icases H with ⟨H, B2⟩
  isplitl [H]; · iexact H
  iintro H
  iapply B1; iapply B2; iexact H

/-- The four blocks for place `q`, once stored, are its slab. -/
theorem yR_slab {y : ℕ} (q : Fin 8) (hy : 8 * (q.val / 2) + 8 ≤ y) :
    bigSep Finset.univ (yR X W c y q) = yPt c (ySlab q) (ybuf X W c) := by
  unfold yPt
  refine Eq.trans ?_ (pieces (ℓ := yM.view.loc (c : Thread nD τ)) (I := ySlab q) (K := yRow q) (fun i => ?_) (yRow_disj q)).symm
  rotate_left
  · rw [ySlab_eq]
    exact Finset.mem_biUnion.trans ⟨fun ⟨a, _, h⟩ => ⟨a, h⟩, fun ⟨a, h⟩ => ⟨a, Finset.mem_univ _, h⟩⟩
  exact bigSep_congr fun a _ => if_pos (Nat.lt_of_lt_of_le (rk_lt' q a) hy)

/-- Passing place `n1` with a copy takes its slab; -/
theorem yS_send {y n1 : ℕ} (hn : n1 < 8) (hy : 8 * (n1 / 2) + 8 ≤ y) (hq : (⟨n1, hn⟩ : Fin 8) ≠ qd c) :
    yS X W c y n1 ⊢ iprop(yPt c (ySlab ⟨n1, hn⟩) (ybuf X W c) ∗ (emp -∗ yS X W c y (n1 + 1))) := by
  unfold yS
  refine take ⟨n1, hn⟩ ((if_neg fun h => Nat.lt_irrefl _ h.1).trans (yR_slab X W c ⟨n1, hn⟩ hy)) (if_pos ⟨Nat.lt_succ_self _, hq⟩) fun j hj => ?_
  have := ne_val hj
  unfold yC
  exact if_congr (and_congr_left fun _ => by dsimp only at this; omega) rfl rfl
/-- passing its own takes nothing. -/
theorem yS_skip {y n1 : ℕ} (hn : n1 < 8) (hq : (⟨n1, hn⟩ : Fin 8) = qd c) : yS X W c y n1 = yS X W c y (n1 + 1) := by
  unfold yS
  refine bigSep_congr fun j _ => ?_
  unfold yC
  refine if_congr (and_congr_left fun h => ?_) rfl rfl
  have : j.val ≠ n1 := fun h' => h ((Fin.ext h').trans hq)
  omega

/-! ## The row copies -/

theorem s1S_send {n1 e1 : ℕ} (hn : n1 < 8) (he : e1 ≤ n1) (hq : (⟨n1, hn⟩ : Fin 8) ≠ qd c) :
    s1S X W c n1 e1 ⊢ iprop(((dutyTok ER (cell c (rs1 ⟨n1, hn⟩)) 0 c ∗ dutyTok ER (cell (dev (pd c) ⟨n1, hn⟩) (rr1 (qd c))) 0 c)
          ∗ atPos ER (cell c (rs1 ⟨n1, hn⟩)) 0 ∅ 0)
        ∗ (cred (tallyAt (cell c (rs1 ⟨n1, hn⟩)) () N1) ∗ atPos ER (cell c (rs1 ⟨n1, hn⟩)) 0 ∅ 0 -∗ s1S X W c (n1 + 1) e1)) := by
  unfold s1S
  refine take ⟨n1, hn⟩ ((if_neg hq).trans ((if_neg (by dsimp only; omega)).trans (if_neg (Nat.lt_irrefl _))))
    ((if_neg hq).trans ((if_neg (by dsimp only; omega)).trans (if_pos (Nat.lt_succ_self _)))) fun j hj => ?_
  have := ne_val hj
  unfold s1C
  rw [if_congr (show Iff (j.val < n1 + 1) (j.val < n1) by dsimp only at this; omega) rfl rfl]
theorem s1S_skip {n1 e1 : ℕ} (hn : n1 < 8) (hq : (⟨n1, hn⟩ : Fin 8) = qd c) : s1S X W c n1 e1 = s1S X W c (n1 + 1) e1 := by
  unfold s1S
  refine bigSep_congr fun j _ => ?_
  unfold s1C
  split
  · rfl
  · next h =>
    have : j.val ≠ n1 := fun h' => h ((Fin.ext h').trans hq)
    rw [if_congr (show Iff (j.val < n1 + 1) (j.val < n1) by omega) rfl rfl]
theorem s1S_done {e1 : ℕ} (hn : e1 < 8) (hq : (⟨e1, hn⟩ : Fin 8) ≠ qd c) :
    s1S X W c 8 e1 ⊢ iprop((cred (tallyAt (cell c (rs1 ⟨e1, hn⟩)) () N1) ∗ atPos ER (cell c (rs1 ⟨e1, hn⟩)) 0 ∅ 0)
        ∗ (atPos ER (cell c (rs1 ⟨e1, hn⟩)) 1 ∅ 0 ∗ yPt c (ySlab ⟨e1, hn⟩) (ybuf X W c) -∗ s1S X W c 8 (e1 + 1))) := by
  unfold s1S
  refine take ⟨e1, hn⟩ ((if_neg hq).trans ((if_neg (Nat.lt_irrefl _)).trans (if_pos hn)))
    ((if_neg hq).trans (if_pos (Nat.lt_succ_self _))) fun j hj => ?_
  have := ne_val hj
  unfold s1C
  rw [if_congr (show Iff (j.val < e1 + 1) (j.val < e1) by dsimp only at this; omega) rfl rfl]
theorem s1S_skip' {n1 e1 : ℕ} (hn : e1 < 8) (hq : (⟨e1, hn⟩ : Fin 8) = qd c) : s1S X W c n1 e1 = s1S X W c n1 (e1 + 1) := by
  unfold s1S
  refine bigSep_congr fun j _ => ?_
  unfold s1C
  split
  · rfl
  · next h =>
    have : j.val ≠ e1 := fun h' => h ((Fin.ext h').trans hq)
    rw [if_congr (show Iff (j.val < e1 + 1) (j.val < e1) by omega) rfl rfl]

theorem d1S_send {b n1 : ℕ} (hn : n1 < 8) (hb : b ≠ 0) (hq : (⟨n1, hn⟩ : Fin 8) ≠ qd c) :
    d1S (F := F) c b n1 ⊢ iprop((∃ f, stPt (dev (pd c) ⟨n1, hn⟩) (stSlot (qd c)) f) ∗ (emp -∗ d1S c b (n1 + 1))) := by
  unfold d1S
  refine take ⟨n1, hn⟩ (if_neg fun h => by rcases h with h | h | h; exacts [hb h, Nat.lt_irrefl _ h, hq h])
    (if_pos (.inr (.inl (Nat.lt_succ_self _)))) fun j hj => ?_
  have := ne_val hj
  unfold d1C
  exact if_congr (or_congr_right (or_congr_left (by dsimp only at this; omega))) rfl rfl
theorem d1S_skip {b n1 : ℕ} (hn : n1 < 8) (hq : (⟨n1, hn⟩ : Fin 8) = qd c) : d1S (F := F) c b n1 = d1S c b (n1 + 1) := by
  unfold d1S
  refine bigSep_congr fun j _ => ?_
  unfold d1C
  refine if_congr (or_congr_right (or_congr_left' fun h => ?_)) rfl rfl
  have : j.val ≠ n1 := fun h' => h ((Fin.ext h').trans hq)
  omega

/-! ## Its own slot, and the arrivals -/

theorem gS_take {g : ℕ} (hg : g < 4) :
    gS X W c g ⊢ iprop((∃ f, stPt c (stRow (qd c) ⟨g, hg⟩) f) ∗ (stPt c (stRow (qd c) ⟨g, hg⟩) (stbuf X W c) -∗ gS X W c (g + 1))) := by
  unfold gS
  refine take ⟨g, hg⟩ (if_neg (Nat.lt_irrefl _)) (if_pos (Nat.lt_succ_self _)) fun j hj => ?_
  have := ne_val hj
  unfold gC
  exact if_congr (by dsimp only at this; omega) rfl rfl
theorem gS_look {g : ℕ} (hg : g < 4) :
    gS X W c g ⊢ iprop((∃ f, stPt c (stRow (qd c) ⟨g, hg⟩) f) ∗ ((∃ f, stPt c (stRow (qd c) ⟨g, hg⟩) f) -∗ gS X W c g)) := by
  unfold gS
  exact take ⟨g, hg⟩ (if_neg (Nat.lt_irrefl _)) (if_neg (Nat.lt_irrefl _)) fun j hj => rfl
/-- Its own slot, once filled. -/
theorem gS_slot : gS X W c 4 = stPt c (stSlot (qd c)) (stbuf X W c) := by
  unfold gS stPt
  refine Eq.trans ?_ (pieces (ℓ := stM.view.loc (c : Thread nD τ)) (I := stSlot (qd c)) (K := stRow (qd c)) (fun i => ?_) (stRow_disj (qd c))).symm
  rotate_left
  · rw [stSlot_eq]
    exact Finset.mem_biUnion.trans ⟨fun ⟨a, _, h⟩ => ⟨a, h⟩, fun ⟨a, h⟩ => ⟨a, Finset.mem_univ _, h⟩⟩
  exact bigSep_congr fun a _ => if_pos a.isLt

theorem r1S_take {m1 : ℕ} (hm : m1 < 8) (hq : (⟨m1, hm⟩ : Fin 8) ≠ qd c) :
    r1S X W c m1 ⊢ iprop((cred (tallyAt (cell c (rr1 ⟨m1, hm⟩)) () N1) ∗ atPos ER (cell c (rr1 ⟨m1, hm⟩)) 0 ∅ 0)
        ∗ (atPos ER (cell c (rr1 ⟨m1, hm⟩)) 1 ∅ 0 ∗ stPt c (stSlot ⟨m1, hm⟩) (stbuf X W c) -∗ r1S X W c (m1 + 1))) := by
  unfold r1S
  refine take ⟨m1, hm⟩ ((if_neg hq).trans (if_neg (Nat.lt_irrefl _))) ((if_neg hq).trans (if_pos (Nat.lt_succ_self _))) fun j hj => ?_
  have := ne_val hj
  unfold r1C
  rw [if_congr (show Iff (j.val < m1 + 1) (j.val < m1) by dsimp only at this; omega) rfl rfl]
theorem r1S_skip {m1 : ℕ} (hm : m1 < 8) (hq : (⟨m1, hm⟩ : Fin 8) = qd c) : r1S X W c m1 = r1S X W c (m1 + 1) := by
  unfold r1S
  refine bigSep_congr fun j _ => ?_
  unfold r1C
  split
  · rfl
  · next h =>
    have : j.val ≠ m1 := fun h' => h ((Fin.ext h').trans hq)
    rw [if_congr (show Iff (j.val < m1 + 1) (j.val < m1) by omega) rfl rfl]
/-- Any slot, once all have arrived and its own is filled. -/
theorem slot_take (q : Fin 8) :
    iprop(gS X W c 4 ∗ r1S X W c 8) ⊢ iprop(stPt c (stSlot q) (stbuf X W c) ∗ (stPt c (stSlot q) (stbuf X W c) -∗ gS X W c 4 ∗ r1S X W c 8)) := by
  by_cases hq : q = qd c
  · subst hq
    rw [gS_slot]
    iintro ⟨H, H'⟩
    isplitl [H]; · iexact H
    iintro H
    isplitl [H]; · iexact H
    iexact H'
  · have h1 : r1S X W c 8 ⊢ iprop((atPos ER (cell c (rr1 q)) 1 ∅ 0 ∗ stPt c (stSlot q) (stbuf X W c))
        ∗ (atPos ER (cell c (rr1 q)) 1 ∅ 0 ∗ stPt c (stSlot q) (stbuf X W c) -∗ r1S X W c 8)) := by
      unfold r1S
      exact take q ((if_neg hq).trans (if_pos q.isLt)) ((if_neg hq).trans (if_pos q.isLt)) fun j hj => rfl
    iintro ⟨Hg, H⟩
    ihave H := h1 $$ H
    icases H with ⟨⟨Ha, H⟩, B⟩
    isplitl [H]; · iexact H
    iintro H
    isplitl [Hg]; · iexact Hg
    iapply B
    isplitl [Ha]; · iexact Ha
    iexact H

/-! ## The stacked blocks, and the column copies -/

/-- Which block is the `z`-th stacked. -/
def zp (z : ℕ) : Fin 4 := ⟨z / 8 % 4, by omega⟩
def zq (z : ℕ) : Fin 8 := ⟨z % 8, by omega⟩

theorem zR_congr {z z' : ℕ} {p : Fin 4} {q : Fin 8} (h : Iff (8 * p.val + q.val < z) (8 * p.val + q.val < z')) : zR X W c z p q = zR X W c z' p q := by
  unfold zR; exact if_congr h rfl rfl

theorem zS_take {z : ℕ} (hz : z < 32) :
    zS X W c z 0 ⊢ iprop((∃ f, s2Pt c (s2Row (zp z) (zq z)) f) ∗ (s2Pt c (s2Row (zp z) (zq z)) (s2buf X W c) -∗ zS X W c (z + 1) 0)) := by
  have hz' : 8 * (zp z).val + (zq z).val = z := by unfold zp zq; dsimp only; omega
  have h1 : zS X W c z 0 ⊢ iprop(bigSep Finset.univ (zR X W c z (zp z)) ∗ (bigSep Finset.univ (zR X W c (z + 1) (zp z)) -∗ zS X W c (z + 1) 0)) := by
    unfold zS
    refine take (zp z) (if_neg fun h => by omega) (if_neg fun h => by omega) fun j hj => ?_
    unfold zC
    split
    · rfl
    · refine bigSep_congr fun a _ => zR_congr X W c ?_
      have := ne_val hj
      omega
  have h2 : bigSep Finset.univ (zR X W c z (zp z)) ⊢ iprop((∃ f, s2Pt c (s2Row (zp z) (zq z)) f)
      ∗ (s2Pt c (s2Row (zp z) (zq z)) (s2buf X W c) -∗ bigSep Finset.univ (zR X W c (z + 1) (zp z)))) := by
    refine take (zq z) (if_neg (by omega)) (if_pos (by omega)) fun j hj => zR_congr X W c ?_
    have := ne_val hj
    omega
  iintro H
  ihave H := h1 $$ H
  icases H with ⟨H, B1⟩
  ihave H := h2 $$ H
  icases H with ⟨H, B2⟩
  isplitl [H]; · iexact H
  iintro H
  iapply B1; iapply B2; iexact H

theorem zS_look {z : ℕ} (hz : z < 32) :
    zS X W c z 0 ⊢ iprop((∃ f, s2Pt c (s2Row (zp z) (zq z)) f) ∗ ((∃ f, s2Pt c (s2Row (zp z) (zq z)) f) -∗ zS X W c z 0)) := by
  have hz' : 8 * (zp z).val + (zq z).val = z := by unfold zp zq; dsimp only; omega
  have h1 : zS X W c z 0 ⊢ iprop(bigSep Finset.univ (zR X W c z (zp z)) ∗ (bigSep Finset.univ (zR X W c z (zp z)) -∗ zS X W c z 0)) := by
    unfold zS
    exact take (zp z) (if_neg fun h => by omega) (if_neg fun h => by omega) fun j hj => rfl
  have h2 : bigSep Finset.univ (zR X W c z (zp z)) ⊢ iprop((∃ f, s2Pt c (s2Row (zp z) (zq z)) f)
      ∗ ((∃ f, s2Pt c (s2Row (zp z) (zq z)) f) -∗ bigSep Finset.univ (zR X W c z (zp z)))) :=
    take (zq z) (if_neg (by omega)) (if_neg (by omega)) fun j hj => rfl
  iintro H
  ihave H := h1 $$ H
  icases H with ⟨H, B1⟩
  ihave H := h2 $$ H
  icases H with ⟨H, B2⟩
  isplitl [H]; · iexact H
  iintro H
  iapply B1; iapply B2; iexact H

theorem zR_slab (p : Fin 4) : bigSep Finset.univ (zR X W c 32 p) = s2Pt c (s2Slab p) (s2buf X W c) := by
  unfold s2Pt
  refine Eq.trans ?_ (pieces (ℓ := s2M.view.loc (c : Thread nD τ)) (I := s2Slab p) (K := s2Row p) (fun i => ?_) (s2Row_disj p)).symm
  rotate_left
  · rw [s2Slab_eq]
    exact Finset.mem_biUnion.trans ⟨fun ⟨a, _, h⟩ => ⟨a, h⟩, fun ⟨a, h⟩ => ⟨a, Finset.mem_univ _, h⟩⟩
  exact bigSep_congr fun a _ => if_pos (by omega)

theorem zS_send {n2 : ℕ} (hn : n2 < 4) (hp : (⟨n2, hn⟩ : Fin 4) ≠ pd c) :
    zS X W c 32 n2 ⊢ iprop(s2Pt c (s2Slab ⟨n2, hn⟩) (s2buf X W c) ∗ (emp -∗ zS X W c 32 (n2 + 1))) := by
  unfold zS
  refine take ⟨n2, hn⟩ ((if_neg fun h => Nat.lt_irrefl _ h.1).trans (zR_slab X W c ⟨n2, hn⟩)) (if_pos ⟨Nat.lt_succ_self _, hp⟩) fun j hj => ?_
  have := ne_val hj
  unfold zC
  exact if_congr (and_congr_left fun _ => by dsimp only at this; omega) rfl rfl
theorem zS_skip {z n2 : ℕ} (hn : n2 < 4) (hp : (⟨n2, hn⟩ : Fin 4) = pd c) : zS X W c z n2 = zS X W c z (n2 + 1) := by
  unfold zS
  refine bigSep_congr fun j _ => ?_
  unfold zC
  refine if_congr (and_congr_left fun h => ?_) rfl rfl
  have : j.val ≠ n2 := fun h' => h ((Fin.ext h').trans hp)
  omega
/-- Once all are stacked: its own slab. -/
theorem zS_own (n2 : ℕ) :
    zS X W c 32 n2 ⊢ iprop(s2Pt c (s2Slab (pd c)) (s2buf X W c) ∗ (s2Pt c (s2Slab (pd c)) (s2buf X W c) -∗ zS X W c 32 n2)) := by
  unfold zS
  exact take (pd c) ((if_neg fun h => h.2 rfl).trans (zR_slab X W c _)) ((if_neg fun h => h.2 rfl).trans (zR_slab X W c _)) fun j hj => rfl

theorem s2S_send {n2 e2 : ℕ} (hn : n2 < 4) (he : e2 ≤ n2) (hp : (⟨n2, hn⟩ : Fin 4) ≠ pd c) :
    s2S X W c n2 e2 ⊢ iprop(((dutyTok ER (cell c (rs2 ⟨n2, hn⟩)) 0 c ∗ dutyTok ER (cell (dev ⟨n2, hn⟩ (qd c)) (rr2 (pd c))) 0 c)
          ∗ atPos ER (cell c (rs2 ⟨n2, hn⟩)) 0 ∅ 0)
        ∗ (cred (tallyAt (cell c (rs2 ⟨n2, hn⟩)) () N2) ∗ atPos ER (cell c (rs2 ⟨n2, hn⟩)) 0 ∅ 0 -∗ s2S X W c (n2 + 1) e2)) := by
  unfold s2S
  refine take ⟨n2, hn⟩ ((if_neg hp).trans ((if_neg (by dsimp only; omega)).trans (if_neg (Nat.lt_irrefl _))))
    ((if_neg hp).trans ((if_neg (by dsimp only; omega)).trans (if_pos (Nat.lt_succ_self _)))) fun j hj => ?_
  have := ne_val hj
  unfold s2C
  rw [if_congr (show Iff (j.val < n2 + 1) (j.val < n2) by dsimp only at this; omega) rfl rfl]
theorem s2S_skip {n2 e2 : ℕ} (hn : n2 < 4) (hp : (⟨n2, hn⟩ : Fin 4) = pd c) : s2S X W c n2 e2 = s2S X W c (n2 + 1) e2 := by
  unfold s2S
  refine bigSep_congr fun j _ => ?_
  unfold s2C
  split
  · rfl
  · next h =>
    have : j.val ≠ n2 := fun h' => h ((Fin.ext h').trans hp)
    rw [if_congr (show Iff (j.val < n2 + 1) (j.val < n2) by omega) rfl rfl]
theorem s2S_done {e2 : ℕ} (hn : e2 < 4) (hp : (⟨e2, hn⟩ : Fin 4) ≠ pd c) :
    s2S X W c 4 e2 ⊢ iprop((cred (tallyAt (cell c (rs2 ⟨e2, hn⟩)) () N2) ∗ atPos ER (cell c (rs2 ⟨e2, hn⟩)) 0 ∅ 0)
        ∗ (atPos ER (cell c (rs2 ⟨e2, hn⟩)) 1 ∅ 0 ∗ s2Pt c (s2Slab ⟨e2, hn⟩) (s2buf X W c) -∗ s2S X W c 4 (e2 + 1))) := by
  unfold s2S
  refine take ⟨e2, hn⟩ ((if_neg hp).trans ((if_neg (Nat.lt_irrefl _)).trans (if_pos hn)))
    ((if_neg hp).trans (if_pos (Nat.lt_succ_self _))) fun j hj => ?_
  have := ne_val hj
  unfold s2C
  rw [if_congr (show Iff (j.val < e2 + 1) (j.val < e2) by dsimp only at this; omega) rfl rfl]
theorem s2S_skip' {n2 e2 : ℕ} (hn : e2 < 4) (hp : (⟨e2, hn⟩ : Fin 4) = pd c) : s2S X W c n2 e2 = s2S X W c n2 (e2 + 1) := by
  unfold s2S
  refine bigSep_congr fun j _ => ?_
  unfold s2C
  split
  · rfl
  · next h =>
    have : j.val ≠ e2 := fun h' => h ((Fin.ext h').trans hp)
    rw [if_congr (show Iff (j.val < e2 + 1) (j.val < e2) by omega) rfl rfl]

theorem d2S_send {b n2 : ℕ} (hn : n2 < 4) (hb : b ≠ 0) (hp : (⟨n2, hn⟩ : Fin 4) ≠ pd c) :
    d2S (F := F) c b n2 ⊢ iprop((∃ f, oPt (dev ⟨n2, hn⟩ (qd c)) (outBlk (pd c)) f) ∗ (emp -∗ d2S c b (n2 + 1))) := by
  unfold d2S
  refine take ⟨n2, hn⟩ (if_neg fun h => by rcases h with h | h | h; exacts [hb h, Nat.lt_irrefl _ h, hp h])
    (if_pos (.inr (.inl (Nat.lt_succ_self _)))) fun j hj => ?_
  have := ne_val hj
  unfold d2C
  exact if_congr (or_congr_right (or_congr_left (by dsimp only at this; omega))) rfl rfl
theorem d2S_skip {b n2 : ℕ} (hn : n2 < 4) (hp : (⟨n2, hn⟩ : Fin 4) = pd c) : d2S (F := F) c b n2 = d2S c b (n2 + 1) := by
  unfold d2S
  refine bigSep_congr fun j _ => ?_
  unfold d2C
  refine if_congr (or_congr_right (or_congr_left' fun h => ?_)) rfl rfl
  have : j.val ≠ n2 := fun h' => h ((Fin.ext h').trans hp)
  omega

theorem r2S_take {m2 : ℕ} (hm : m2 < 4) (hp : (⟨m2, hm⟩ : Fin 4) ≠ pd c) :
    r2S X W c m2 ⊢ iprop((cred (tallyAt (cell c (rr2 ⟨m2, hm⟩)) () N2) ∗ atPos ER (cell c (rr2 ⟨m2, hm⟩)) 0 ∅ 0)
        ∗ (atPos ER (cell c (rr2 ⟨m2, hm⟩)) 1 ∅ 0 ∗ oPt c (outBlk ⟨m2, hm⟩) (outbuf X W c) -∗ r2S X W c (m2 + 1))) := by
  unfold r2S
  refine take ⟨m2, hm⟩ ((if_neg hp).trans (if_neg (Nat.lt_irrefl _))) ((if_neg hp).trans (if_pos (Nat.lt_succ_self _))) fun j hj => ?_
  have := ne_val hj
  unfold r2C
  rw [if_congr (show Iff (j.val < m2 + 1) (j.val < m2) by dsimp only at this; omega) rfl rfl]
theorem r2S_skip {m2 : ℕ} (hm : m2 < 4) (hp : (⟨m2, hm⟩ : Fin 4) = pd c) : r2S X W c m2 = r2S X W c (m2 + 1) := by
  unfold r2S
  refine bigSep_congr fun j _ => ?_
  unfold r2C
  split
  · rfl
  · next h =>
    have : j.val ≠ m2 := fun h' => h ((Fin.ext h').trans hp)
    rw [if_congr (show Iff (j.val < m2 + 1) (j.val < m2) by omega) rfl rfl]

/-! ## What the barrier brings -/

/-- What is wanted from the peers, over the places and the rows. -/
theorem bar_hands : bigSep Finset.univ (fun i : Fin 10 => hand X W c rb (peer c i)) ⊢ iprop(d1S (F := F) c 1 0 ∗ d2S (F := F) c 1 0) := by
  have e1 : (Finset.univ.filter fun q : Fin 8 => ¬ q = qd c) = (Finset.univ.filter fun i : Fin 10 => i.val < 7).image (fun i => qd (peer c i)) := by
    revert c; decide +kernel
  have e2 : (Finset.univ.filter fun p : Fin 4 => ¬ p = pd c) = (Finset.univ.filter fun i : Fin 10 => ¬ i.val < 7).image (fun i => pd (peer c i)) := by
    revert c; decide +kernel
  have i1 : ∀ a ∈ (Finset.univ.filter fun i : Fin 10 => i.val < 7), ∀ b ∈ (Finset.univ.filter fun i : Fin 10 => i.val < 7), qd (peer c a) = qd (peer c b) → a = b := by
    revert c; decide +kernel
  have i2 : ∀ a ∈ (Finset.univ.filter fun i : Fin 10 => ¬ i.val < 7), ∀ b ∈ (Finset.univ.filter fun i : Fin 10 => ¬ i.val < 7), pd (peer c a) = pd (peer c b) → a = b := by
    revert c; decide +kernel
  have h1 : d1S (F := F) c 1 0 = bigSep (Finset.univ.filter fun i : Fin 10 => i.val < 7) (fun i : Fin 10 => hand X W c rb (peer c i)) := by
    unfold d1S d1C
    rw [show (fun q : Fin 8 => if (1 = 0 ∨ q.val < 0 ∨ q = qd c) then (iprop(emp) : sProp 𝕄) else iprop(∃ f, stPt (dev (pd c) q) (stSlot (qd c)) f))
        = fun q : Fin 8 => if ¬ q = qd c then iprop(∃ f, stPt (dev (pd c) q) (stSlot (qd c)) f) else iprop(emp) from funext fun q => by
          by_cases h : q = qd c
          · rw [if_pos (.inr (.inr h)), if_neg (fun h' => h' h)]
          · rw [if_neg (fun h' => by rcases h' with h' | h' | h'; exacts [Nat.one_ne_zero h', Nat.not_lt_zero _ h', h h']), if_pos h]]
    refine (bigSep_filter _ _ _).symm.trans ?_
    rw [e1, bigSep_image_of_injOn i1]
    refine bigSep_congr fun i hi => ?_
    have hp := (peer_row c i (Finset.mem_filter.mp hi).2).1
    unfold hand
    dsimp only
    rw [if_pos hp, ← hp, dev_pd_qd]
  have h2 : d2S (F := F) c 1 0 = bigSep (Finset.univ.filter fun i : Fin 10 => ¬ i.val < 7) (fun i : Fin 10 => hand X W c rb (peer c i)) := by
    unfold d2S d2C
    rw [show (fun p : Fin 4 => if (1 = 0 ∨ p.val < 0 ∨ p = pd c) then (iprop(emp) : sProp 𝕄) else iprop(∃ f, oPt (dev p (qd c)) (outBlk (pd c)) f))
        = fun p : Fin 4 => if ¬ p = pd c then iprop(∃ f, oPt (dev p (qd c)) (outBlk (pd c)) f) else iprop(emp) from funext fun p => by
          by_cases h : p = pd c
          · rw [if_pos (.inr (.inr h)), if_neg (fun h' => h' h)]
          · rw [if_neg (fun h' => by rcases h' with h' | h' | h'; exacts [Nat.one_ne_zero h', Nat.not_lt_zero _ h', h h']), if_pos h]]
    refine (bigSep_filter _ _ _).symm.trans ?_
    rw [e2, bigSep_image_of_injOn i2]
    refine bigSep_congr fun i hi => ?_
    have hp := peer_col c i (Finset.mem_filter.mp hi).2
    unfold hand
    dsimp only
    rw [if_neg hp.2, ← hp.1, dev_pd_qd]
  rw [h1, h2]
  exact Entails.of_eq (bigSep_filter_split Finset.univ fun i : Fin 10 => i.val < 7)

end Cert.KernelIdeal.Rsf

end
-- ==== Proof.Steps.lean ====
/- The steps of one device, each from what it holds before to what it holds after. -/
module

public import proofs.«01_k».proof.Proof.Moves

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]

local notation "𝕄" => MT nD τ sig Unit (Elt F) ℕ UU ℕ

variable {X : Dev nD → Vec F S64x2048 .bf16} {W : Dev nD → Vec F S2048x2048 .bf16} {K : Dev nD × Ro → ℕ} {c : Dev nD}
variable {α : Type} {Q : α → sProp (MT nD τ sig Unit (Elt F) ℕ UU ℕ)} {k : PUnit → Prog (TpuEff nD τ sig (Elt F) Λ₀ .tc) α}

theorem mem_duties {d : Dev nD} {r : Ro} {e : Dev nD} (h : e ∈ payers d r) : e ∈ (Rd X W).duties (cell d r) 0 := by rw [duties_cell]; exact h
theorem mem_one {d e : Dev nD} {r : Ro} (h : payers d r = {e}) : e ∈ (Rd X W).duties (cell d r) 0 := mem_duties (h ▸ Finset.mem_singleton_self e)
theorem pay_in (d : Dev nD) (r : Ro) (e : Dev nD) : hand X W d r e ⊢ (Rd X W).payload (cell d r) 0 e := Entails.of_eq (payload_cell X W d r e).symm

theorem yPt_congr {d : Dev nD} {I : Finset S32x64x64.Idx} {f f' : Vec F S32x64x64 .bf16} (h : ∀ i ∈ I, f i = f' i) : yPt d I f ⊢ yPt d I f' := by
  unfold yPt; exact Entails.of_eq (pointsTo_congr h)
theorem stPt_congr {d : Dev nD} {I : Finset S8x4x64x64.Idx} {f f' : Vec F S8x4x64x64 .bf16} (h : ∀ i ∈ I, f i = f' i) : stPt d I f ⊢ stPt d I f' := by
  unfold stPt; exact Entails.of_eq (pointsTo_congr h)
theorem s2Pt_congr {d : Dev nD} {I : Finset S4x512x64.Idx} {f f' : Vec F S4x512x64 .bf16} (h : ∀ i ∈ I, f i = f' i) : s2Pt d I f ⊢ s2Pt d I f' := by
  unfold s2Pt; exact Entails.of_eq (pointsTo_congr h)
theorem oPt_congr {d : Dev nD} {I : Finset S2048x64.Idx} {f f' : Vec F S2048x64 .bf16} (h : ∀ i ∈ I, f i = f' i) : oPt d I f ⊢ oPt d I f' := by
  unfold oPt; exact Entails.of_eq (pointsTo_congr h)

/-! ## Loads and stores within a piece that is held -/

theorem loadY {I : Finset S32x64x64.Idx} {f : Vec F S32x64x64 .bf16} {off : Fin 3 → ℕ} {inb} {hl}
    {k : Vec F S1x64x64 .bf16 → Prog (TpuEff nD τ sig (Elt F) Λ₀ .tc) α} (hI : (Rect.unit (s := S32x64x64) off S1x64x64.size inb).set ⊆ I) :
    yPt c I f ⊢ iprop((yPt c I f -∗ wpc c (k ((yM.access (Rect.unit (s := S32x64x64) off S1x64x64.size inb)).read (Elt F) f)) Q)
      -∗ wpc c (.op (.load yM (Rect.unit (s := S32x64x64) off S1x64x64.size inb).toLoadRect hl) k) Q) :=
  wp_load_rect 𝒱₀ (c : Thread nD τ) none Set.univ (m := yM) (r := Rect.unit (s := S32x64x64) off S1x64x64.size inb) (S := I) (f := f)
    (by rw [View.set_slice_whole cc0_scratch0]; exact hI)

theorem loadSt {I : Finset S8x4x64x64.Idx} {f : Vec F S8x4x64x64 .bf16} {off : Fin 4 → ℕ} {inb} {hl}
    {k : Vec F S1x1x64x64 .bf16 → Prog (TpuEff nD τ sig (Elt F) Λ₀ .tc) α} (hI : (Rect.unit (s := S8x4x64x64) off S1x1x64x64.size inb).set ⊆ I) :
    stPt c I f ⊢ iprop((stPt c I f -∗ wpc c (k ((stM.access (Rect.unit (s := S8x4x64x64) off S1x1x64x64.size inb)).read (Elt F) f)) Q)
      -∗ wpc c (.op (.load stM (Rect.unit (s := S8x4x64x64) off S1x1x64x64.size inb).toLoadRect hl) k) Q) :=
  wp_load_rect 𝒱₀ (c : Thread nD τ) none Set.univ (m := stM) (r := Rect.unit (s := S8x4x64x64) off S1x1x64x64.size inb) (S := I) (f := f)
    (by rw [View.set_slice_whole cc0_scratch1]; exact hI)

theorem loadS2 {I : Finset S4x512x64.Idx} {f : Vec F S4x512x64 .bf16} {off : Fin 3 → ℕ} {inb} {hl}
    {k : Vec F S1x64x64 .bf16 → Prog (TpuEff nD τ sig (Elt F) Λ₀ .tc) α} (hI : (Rect.unit (s := S4x512x64) off S1x64x64.size inb).set ⊆ I) :
    s2Pt c I f ⊢ iprop((s2Pt c I f -∗ wpc c (k ((s2M.access (Rect.unit (s := S4x512x64) off S1x64x64.size inb)).read (Elt F) f)) Q)
      -∗ wpc c (.op (.load s2M (Rect.unit (s := S4x512x64) off S1x64x64.size inb).toLoadRect hl) k) Q) :=
  wp_load_rect 𝒱₀ (c : Thread nD τ) none Set.univ (m := s2M) (r := Rect.unit (s := S4x512x64) off S1x64x64.size inb) (S := I) (f := f)
    (by rw [View.set_slice_whole cc0_scratch2]; exact hI)

theorem loadS2slab {I : Finset S4x512x64.Idx} {f : Vec F S4x512x64 .bf16} {off : Fin 3 → ℕ} {inb} {hl}
    {k : Vec F S1x512x64 .bf16 → Prog (TpuEff nD τ sig (Elt F) Λ₀ .tc) α} (hI : (Rect.unit (s := S4x512x64) off S1x512x64.size inb).set ⊆ I) :
    s2Pt c I f ⊢ iprop((s2Pt c I f -∗ wpc c (k ((s2M.access (Rect.unit (s := S4x512x64) off S1x512x64.size inb)).read (Elt F) f)) Q)
      -∗ wpc c (.op (.load s2M (Rect.unit (s := S4x512x64) off S1x512x64.size inb).toLoadRect hl) k) Q) :=
  wp_load_rect 𝒱₀ (c : Thread nD τ) none Set.univ (m := s2M) (r := Rect.unit (s := S4x512x64) off S1x512x64.size inb) (S := I) (f := f)
    (by rw [View.set_slice_whole cc0_scratch2]; exact hI)

theorem loadO {I : Finset S2048x64.Idx} {f : Vec F S2048x64 .bf16} {off : Fin 2 → ℕ} {inb} {hl}
    {k : Vec F S512x64 .bf16 → Prog (TpuEff nD τ sig (Elt F) Λ₀ .tc) α} (hI : (Rect.unit (s := S2048x64) off S512x64.size inb).set ⊆ I) :
    oPt c I f ⊢ iprop((oPt c I f -∗ wpc c (k ((oM.access (Rect.unit (s := S2048x64) off S512x64.size inb)).read (Elt F) f)) Q)
      -∗ wpc c (.op (.load oM (Rect.unit (s := S2048x64) off S512x64.size inb).toLoadRect hl) k) Q) :=
  wp_load_rect 𝒱₀ (c : Thread nD τ) none Set.univ (m := oM) (r := Rect.unit (s := S2048x64) off S512x64.size inb) (S := I) (f := f)
    (by rw [View.set_slice_whole cc0_stg2_0]; exact hI)

theorem storeY' {I : Finset S32x64x64.Idx} {f f' : Vec F S32x64x64 .bf16} {off : Fin 3 → ℕ} {inb} {v} {hx} {hm}
    (hI : (Rect.unit (s := S32x64x64) off S1x64x64.size inb).set = I)
    (hf : ∀ i ∈ I, (yM.access (Rect.unit (s := S32x64x64) off S1x64x64.size inb)).write (Elt F) f v Finset.univ i = f' i) :
    yPt c I f ⊢ iprop((yPt c I f' -∗ wpc c (k ⟨⟩) Q)
      -∗ wpc c (.op (.store yM (Rect.unit (s := S32x64x64) off S1x64x64.size inb) v Finset.univ hx hm) k) Q) := by
  have h : yPt c I f ⊢ iprop((yPt c I ((yM.access (Rect.unit (s := S32x64x64) off S1x64x64.size inb)).write (Elt F) f v Finset.univ) -∗ wpc c (k ⟨⟩) Q)
      -∗ wpc c (.op (.store yM (Rect.unit (s := S32x64x64) off S1x64x64.size inb) v Finset.univ hx hm) k) Q) :=
    wp_store 𝒱₀ (c : Thread nD τ) none Set.univ (m := yM) (r := Rect.unit (s := S32x64x64) off S1x64x64.size inb) (S := I) (f := f)
      (((setOn_store cc0_scratch0 off S1x64x64.size inb).trans hI).subset)
  have h' : yPt c I ((yM.access (Rect.unit (s := S32x64x64) off S1x64x64.size inb)).write (Elt F) f v Finset.univ) ⊢ yPt c I f' := yPt_congr hf
  iintro H Hk
  iapply h $$ H
  iintro H
  iapply Hk
  iapply h'
  iexact H

theorem storeSt' {I : Finset S8x4x64x64.Idx} {f f' : Vec F S8x4x64x64 .bf16} {off : Fin 4 → ℕ} {inb} {v} {hx} {hm}
    (hI : (Rect.unit (s := S8x4x64x64) off S1x1x64x64.size inb).set = I)
    (hf : ∀ i ∈ I, (stM.access (Rect.unit (s := S8x4x64x64) off S1x1x64x64.size inb)).write (Elt F) f v Finset.univ i = f' i) :
    stPt c I f ⊢ iprop((stPt c I f' -∗ wpc c (k ⟨⟩) Q)
      -∗ wpc c (.op (.store stM (Rect.unit (s := S8x4x64x64) off S1x1x64x64.size inb) v Finset.univ hx hm) k) Q) := by
  have h : stPt c I f ⊢ iprop((stPt c I ((stM.access (Rect.unit (s := S8x4x64x64) off S1x1x64x64.size inb)).write (Elt F) f v Finset.univ) -∗ wpc c (k ⟨⟩) Q)
      -∗ wpc c (.op (.store stM (Rect.unit (s := S8x4x64x64) off S1x1x64x64.size inb) v Finset.univ hx hm) k) Q) :=
    wp_store 𝒱₀ (c : Thread nD τ) none Set.univ (m := stM) (r := Rect.unit (s := S8x4x64x64) off S1x1x64x64.size inb) (S := I) (f := f)
      (((setOn_store cc0_scratch1 off S1x1x64x64.size inb).trans hI).subset)
  have h' : stPt c I ((stM.access (Rect.unit (s := S8x4x64x64) off S1x1x64x64.size inb)).write (Elt F) f v Finset.univ) ⊢ stPt c I f' := stPt_congr hf
  iintro H Hk
  iapply h $$ H
  iintro H
  iapply Hk
  iapply h'
  iexact H

theorem storeS2' {I : Finset S4x512x64.Idx} {f f' : Vec F S4x512x64 .bf16} {off : Fin 3 → ℕ} {inb} {v} {hx} {hm}
    (hI : (Rect.unit (s := S4x512x64) off S1x64x64.size inb).set = I)
    (hf : ∀ i ∈ I, (s2M.access (Rect.unit (s := S4x512x64) off S1x64x64.size inb)).write (Elt F) f v Finset.univ i = f' i) :
    s2Pt c I f ⊢ iprop((s2Pt c I f' -∗ wpc c (k ⟨⟩) Q)
      -∗ wpc c (.op (.store s2M (Rect.unit (s := S4x512x64) off S1x64x64.size inb) v Finset.univ hx hm) k) Q) := by
  have h : s2Pt c I f ⊢ iprop((s2Pt c I ((s2M.access (Rect.unit (s := S4x512x64) off S1x64x64.size inb)).write (Elt F) f v Finset.univ) -∗ wpc c (k ⟨⟩) Q)
      -∗ wpc c (.op (.store s2M (Rect.unit (s := S4x512x64) off S1x64x64.size inb) v Finset.univ hx hm) k) Q) :=
    wp_store 𝒱₀ (c : Thread nD τ) none Set.univ (m := s2M) (r := Rect.unit (s := S4x512x64) off S1x64x64.size inb) (S := I) (f := f)
      (((setOn_store cc0_scratch2 off S1x64x64.size inb).trans hI).subset)
  have h' : s2Pt c I ((s2M.access (Rect.unit (s := S4x512x64) off S1x64x64.size inb)).write (Elt F) f v Finset.univ) ⊢ s2Pt c I f' := s2Pt_congr hf
  iintro H Hk
  iapply h $$ H
  iintro H
  iapply Hk
  iapply h'
  iexact H

theorem storeOut' {I : Finset S2048x64.Idx} {f f' : Vec F S2048x64 .bf16} {off : Fin 2 → ℕ} {inb} {v} {hx} {hm}
    (hI : (Rect.unit (s := S2048x64) off S512x64.size inb).set = I)
    (hf : ∀ i ∈ I, (oM.access (Rect.unit (s := S2048x64) off S512x64.size inb)).write (Elt F) f v Finset.univ i = f' i) :
    oPt c I f ⊢ iprop((oPt c I f' -∗ wpc c (k ⟨⟩) Q)
      -∗ wpc c (.op (.store oM (Rect.unit (s := S2048x64) off S512x64.size inb) v Finset.univ hx hm) k) Q) := by
  have h : oPt c I f ⊢ iprop((oPt c I ((oM.access (Rect.unit (s := S2048x64) off S512x64.size inb)).write (Elt F) f v Finset.univ) -∗ wpc c (k ⟨⟩) Q)
      -∗ wpc c (.op (.store oM (Rect.unit (s := S2048x64) off S512x64.size inb) v Finset.univ hx hm) k) Q) :=
    wp_store 𝒱₀ (c : Thread nD τ) none Set.univ (m := oM) (r := Rect.unit (s := S2048x64) off S512x64.size inb) (S := I) (f := f)
      (((setOn_store cc0_stg2_0 off S512x64.size inb).trans hI).subset)
  have h' : oPt c I ((oM.access (Rect.unit (s := S2048x64) off S512x64.size inb)).write (Elt F) f v Finset.univ) ⊢ oPt c I f' := oPt_congr hf
  iintro H Hk
  iapply h $$ H
  iintro H
  iapply Hk
  iapply h'
  iexact H

theorem peer_pays (c : Dev nD) (i : Fin 10) : amt (peer c i) rb c = peerAmt i := by
  revert i; revert c; unfold amt; decide +kernel

set_option maxRecDepth 8000 in
theorem may (c : Dev nD) (r : Ro) (cut sg n1 n2 : ℕ) (hr : lvR (some r) ≤ cut)
    (h0 : sg < 10 → cut < 1) (h1 : n1 < 8 → cut < 2) (h2 : n2 < 4 → cut < 3) :
    recs X W K ⊢ MayWait (c : Thread nD τ) (rsem r) () (Owed c sg n1 n2) := by
  have hl : lvR (roleOf (rsem r)) ≤ cut := le_of_eq_of_le (congrArg lvR (roleOf_rsem r)) hr
  generalize rsem r = sm at hl ⊢
  have h := mayWait (F := F) c sm cut sg n1 n2 hl h0 h1 h2
  unfold recs
  iintro ⟨-, -, H⟩
  iapply h
  iexact H

/-- Waiting for a semaphore's one payment, when what is still owed comes later. -/
theorem wait_one (r : Ro) (e : Dev nD) {N cut sg n1 n2 : ℕ} (hp : payers c r = {e}) (ha : amt c r e = N) (hr : lvR (some r) ≤ cut)
    (h0 : sg < 10 → cut < 1) (h1 : n1 < 8 → cut < 2) (h2 : n2 < 4 → cut < 3)
    {w : TpuEff nD τ sig (Elt F) Λ₀ .tc PUnit}
    (hw : ∀ G : PUnit → sProp (MT nD τ sig Unit (Elt F) ℕ UU ℕ),
      wpE (defs₀ (F := F)) 𝒱₀ (c : Thread nD τ) none Set.univ w G = waitSpec (c : Thread nD τ) Set.univ (rsem r) N G) :
    iprop(recs X W K ∗ ow c (Owed c sg n1 n2) ∗ cred (tallyAt (cell c r) () N) ∗ atPos ER (cell c r) 0 ∅ 0)
      ⊢ iprop((ow c (Owed c sg n1 n2) ∗ atPos ER (cell c r) 1 ∅ 0 ∗ hand X W c r e -∗ wpc c (k ⟨⟩) Q) -∗ wpc c (.op w k) Q) := by
  unfold ow
  iintro ⟨#HR, ⟨%V, HO⟩, Hc, Ha⟩ Hk
  ihave #HI := (recs_inv X W K c r) $$ HR
  ihave HM := (may c r cut sg n1 n2 hr h0 h1 h2) $$ HR
  iapply (Rounds.wp_wait_rest_token 𝒱₀ ER (Rd X W) (c : Thread nD τ) none (κ := K (c, r)) hw
    (Set.mem_univ _) () (O := Owed c sg n1 n2) (W := V) (R := 0) (m := 0) (T := ∅) (by rw [Nat.zero_add]; exact (expect_one X W c e r N hp ha).symm)) $$ [HO Hc Ha HM]
  · isplitr; · iexact HI
    isplitl [Hc]; · iexact Hc
    isplitl [HO]; · iexact HO
    isplitl [HM]; · iexact HM
    iexact Ha
  iintro ⟨HO, Ha, -, Hp⟩
  ihave Hp := (Entails.of_eq (rest_one X W c e r hp)) $$ Hp
  iapply Hk
  isplitl [HO]; · iexists _; iexact HO
  isplitl [Ha]; · iexact Ha
  iexact Hp

/-! ## The barrier -/

theorem st_sig {sg : ℕ} (hi : sg < 10) {d : Dev nD} (hd : d = peer c ⟨sg, hi⟩) {n : ℤ} (hn : n = ((peerAmt ⟨sg, hi⟩ : ℕ) : ℤ))
    (h : St X W K c (sg + 1) 0 0 0 0 0 0 0 0 0 0 0 ⊢ wpc c (k ⟨⟩) Q) :
    St X W K c sg 0 0 0 0 0 0 0 0 0 0 0 ⊢ wpc c (.op (.semSignal ((d : Dev nD), Proc.tc) barS n) k) Q := by
  subst hd hn
  unfold St ow
  iintro ⟨#HR, ⟨%V, HO⟩, Hx, Hw, HA, Hs⟩
  ihave HA := (aS_take X W c hi) $$ HA
  icases HA with ⟨⟨Ht, Hh⟩, HA⟩
  ihave #HI := (recs_inv X W K (peer c ⟨sg, hi⟩) rb) $$ HR
  ihave #HP := (recs_reached X W K (peer c ⟨sg, hi⟩) rb) $$ HR
  iapply (Rounds.wp_signal 𝒱₀ ER (Rd X W) (c : Thread nD τ) none (dst := (peer c ⟨sg, hi⟩ : Thread nD τ)) (sem := barS) (r := 0) (d := c) (k' := peerAmt ⟨sg, hi⟩)
    (mem_duties (r := rb) (peer_symm c _)) ((amount_cell X W _ rb c).trans (peer_pays c ⟨sg, hi⟩)) () (Owed c (sg + 1) 0 0) (Owed_bar c ⟨sg, hi⟩ 0 0)) $$ [HO Ht Hh]
  · isplitr; · iexact HI
    isplitl [HO]; · iexact HO
    isplitl [Ht]; · iexact Ht
    isplitl [Hh]; · iapply (pay_in (peer c ⟨sg, hi⟩) rb c); iexact Hh
    iexact HP
  iintro HO
  iapply h
  unfold St ow
  iframe HR Hx Hw Hs
  isplitl [HO]; · iexists _; iexact HO
  iapply HA
  iempintro

theorem st_bar {y : ℕ} {n : ℤ} (hn : n = ((31 : ℕ) : ℤ))
    (h : St X W K c 10 1 y 0 0 0 0 0 0 0 0 0 ⊢ wpc c (k ⟨⟩) Q) :
    St X W K c 10 0 y 0 0 0 0 0 0 0 0 0 ⊢ wpc c (.op (.semWait barS n) k) Q := by
  subst hn
  unfold St ow bC
  rw [if_pos rfl]
  iintro ⟨#HR, ⟨%V, HO⟩, Hx, Hw, HA, ⟨Hc, Ha⟩, HY, HS, -, HG, HR1, HZ, HS2, -, Hs⟩
  ihave #HI := (recs_inv X W K c rb) $$ HR
  ihave HM := (may c rb 1 10 0 0 (Nat.le_refl 1) (fun h => absurd h (by decide)) (fun _ => by decide) (fun _ => by decide)) $$ HR
  iapply (Rounds.wp_wait_rest_token 𝒱₀ ER (Rd X W) (c : Thread nD τ) none (κ := K (c, rb)) (wpE_semWait_eq 𝒱₀ (c : Thread nD τ) none Set.univ)
    (Set.mem_univ _) () (O := Owed c 10 0 0) (W := V) (R := 0) (m := 0) (T := ∅) (by rw [Nat.zero_add]; exact (expect_bar X W c).symm)) $$ [HO Hc Ha HM]
  · isplitr; · iexact HI
    isplitl [Hc]; · iexact Hc
    isplitl [HO]; · iexact HO
    isplitl [HM]; · iexact HM
    iexact Ha
  iintro ⟨HO, Ha, -, Hp⟩
  ihave Hp := ((Entails.of_eq (rest_bar X W c)).trans (bar_hands X W c)) $$ Hp
  icases Hp with ⟨H1, H2⟩
  iapply h
  unfold St ow bC
  rw [if_neg Nat.one_ne_zero]
  iframe
  isplitr; · iexact HR
  iexists _; iexact HO

/-! ## The product -/

section
variable {sg b y n1 g m1 z n2 o m2 e1 e2 : ℕ}

theorem st_loadX {inb} {hl} {k : Vec F S64x2048 .bf16 → Prog (TpuEff nD τ sig (Elt F) Λ₀ .tc) α}
    (h : St X W K c sg b y n1 g m1 z n2 o m2 e1 e2 ⊢ wpc c (k (X c)) Q) :
    St X W K c sg b y n1 g m1 z n2 o m2 e1 e2
      ⊢ wpc c (.op (.load xM (Rect.unit (s := S64x2048) ![0, 0] S64x2048.size inb).toLoadRect hl) k) Q := by
  have hr : (xM.access (Rect.unit (s := S64x2048) ![0, 0] S64x2048.size inb)).read (Elt F) (X c) = X c :=
    Memref.read_access_unit_zero (Elt F) cc0_stg0_0 (funext fun a => by match a with | ⟨0, _⟩ => rfl | ⟨1, _⟩ => rfl) inb (X c)
  unfold St xP
  iintro ⟨HR, HO, Hx, Hs⟩
  iapply (wp_load_rect 𝒱₀ (c : Thread nD τ) none Set.univ (m := xM) (r := Rect.unit (s := S64x2048) ![0, 0] S64x2048.size inb) (f := X c) (Finset.subset_univ _)) $$ Hx
  rw [hr]
  iintro Hx
  iapply h
  unfold St xP
  iframe

theorem st_loadW (gg : Fin 16) {off : Fin 2 → ℕ} {inb} {hl} (ho : off = ![0, 128 * gg.val]) {k : Vec F S2048x128 .bf16 → Prog (TpuEff nD τ sig (Elt F) Λ₀ .tc) α}
    (h : St X W K c sg b y n1 g m1 z n2 o m2 e1 e2 ⊢ wpc c (k (wcol (W c) gg)) Q) :
    St X W K c sg b y n1 g m1 z n2 o m2 e1 e2
      ⊢ wpc c (.op (.load wM (Rect.unit (s := S2048x2048) off S2048x128.size inb).toLoadRect hl) k) Q := by
  unfold St wP
  iintro ⟨HR, HO, Hx, Hw, Hs⟩
  iapply (wp_load_rect 𝒱₀ (c : Thread nD τ) none Set.univ (m := wM) (r := Rect.unit (s := S2048x2048) off S2048x128.size inb) (f := W c) (Finset.subset_univ _)) $$ Hw
  rw [wcol_read gg ho]
  iintro Hw
  iapply h
  unfold St wP
  iframe

/-- The columns the next block to be stored is made from. -/
theorem st_loadWy {off : Fin 2 → ℕ} {inb} {hl} (ho : off = ![0, 128 * (yg y).val]) {k : Vec F S2048x128 .bf16 → Prog (TpuEff nD τ sig (Elt F) Λ₀ .tc) α}
    (h : St X W K c sg b y n1 g m1 z n2 o m2 e1 e2 ⊢ wpc c (k (wcol (W c) (yg y))) Q) :
    St X W K c sg b y n1 g m1 z n2 o m2 e1 e2
      ⊢ wpc c (.op (.load wM (Rect.unit (s := S2048x2048) off S2048x128.size inb).toLoadRect hl) k) Q :=
  st_loadW (yg y) ho h

/-- What is read before a block is overwritten is not used. -/
theorem st_deadY (hy : y < 32) (hn : n1 ≤ (yq y).val) {off : Fin 3 → ℕ} {inb} {hl} (ho : off = ![4 * (yq y).val + (ya y).val, 0, 0])
    {p : Prog (TpuEff nD τ sig (Elt F) Λ₀ .tc) α}
    (h : St X W K c sg b y n1 g m1 z n2 o m2 e1 e2 ⊢ wpc c p Q) :
    St X W K c sg b y n1 g m1 z n2 o m2 e1 e2
      ⊢ wpc c (.op (.load yM (Rect.unit (s := S32x64x64) off S1x64x64.size inb).toLoadRect hl) fun _ => p) Q := by
  unfold St
  iintro ⟨HR, HO, Hx, Hw, HA, HB, HY, Hs⟩
  ihave HY := (yS_look X W c hy hn) $$ HY
  icases HY with ⟨⟨%f, Hf⟩, HY⟩
  iapply (loadY (set_yRow (yq y) (ya y) ho).subset) $$ Hf
  iintro Hf
  iapply h
  unfold St
  iframe HR HO Hx Hw HA HB Hs
  iapply HY
  iexists f
  iexact Hf

theorem st_storeY (hy : y < 32) (hn : n1 ≤ (yq y).val) {off : Fin 3 → ℕ} {inb} {v} {hx} {hm} (ho : off = ![4 * (yq y).val + (ya y).val, 0, 0])
    (hv : v = rowPay (X c) (W c) (yq y) (ya y))
    (h : St X W K c sg b (y + 1) n1 g m1 z n2 o m2 e1 e2 ⊢ wpc c (k ⟨⟩) Q) :
    St X W K c sg b y n1 g m1 z n2 o m2 e1 e2
      ⊢ wpc c (.op (.store yM (Rect.unit (s := S32x64x64) off S1x64x64.size inb) v Finset.univ hx hm) k) Q := by
  subst hv
  unfold St
  iintro ⟨HR, HO, Hx, Hw, HA, HB, HY, Hs⟩
  ihave HY := (yS_take X W c hy hn) $$ HY
  icases HY with ⟨⟨%f, Hf⟩, HY⟩
  iapply (storeY' (set_yRow (yq y) (ya y) ho) (storeY X W c (yq y) (ya y) ho f)) $$ Hf
  iintro Hf
  iapply h
  unfold St
  iframe HR HO Hx Hw HA HB Hs
  iapply HY
  iexact Hf

/-- One block: the row is read, which changes nothing, and stored. -/
theorem st_row (hy : y < 32) (hn : n1 ≤ (yq y).val) {off : Fin 3 → ℕ} {inb inb'} {hl} {v} {hx} {hm} (ho : off = ![4 * (yq y).val + (ya y).val, 0, 0])
    (hv : v = rowPay (X c) (W c) (yq y) (ya y))
    (h : St X W K c sg b (y + 1) n1 g m1 z n2 o m2 e1 e2 ⊢ wpc c (k ⟨⟩) Q) :
    St X W K c sg b y n1 g m1 z n2 o m2 e1 e2
      ⊢ wpc c (.op (.load yM (Rect.unit (s := S32x64x64) off S1x64x64.size inb).toLoadRect hl) fun _ =>
          .op (.store yM (Rect.unit (s := S32x64x64) off S1x64x64.size inb') v Finset.univ hx hm) k) Q :=
  st_deadY hy hn ho (st_storeY hy hn ho hv h)

/-! ## Passing a guard -/

/-- A guarded step that leads to one state, and skipping it to the same. -/
theorem guard {β : Type} {A B : sProp (MT nD τ sig Unit (Elt F) ℕ UU ℕ)} {P : Prop} [Decidable P]
    {eff : P → TpuEff nD τ sig (Elt F) Λ₀ .tc PUnit} {e : Prog (TpuEff nD τ sig (Elt F) Λ₀ .tc) β} {kk : β → Prog (TpuEff nD τ sig (Elt F) Λ₀ .tc) α} {n : Prop} (hP : P ↔ n)
    (hd : ∀ (h : P), n → ∀ k : PUnit → Prog (TpuEff nD τ sig (Elt F) Λ₀ .tc) α, (B ⊢ wpc c (k ⟨⟩) Q) → A ⊢ wpc c (.op (eff h) k) Q)
    (hn : ¬ n → A = B) (hs : B ⊢ wpc c (e >>= kk) Q) :
    A ⊢ wpc c ((if h : P then .op (eff h) (fun _ => e) else e) >>= kk) Q := by
  by_cases h : P
  · rw [dif_pos h]; exact hd h (hP.mp h) (fun _ => e >>= kk) hs
  · rw [dif_neg h, hn (fun h' => h (hP.mpr h'))]; exact hs

/-! ## Copies along the row -/

theorem pay_rs1 {q : Fin 8} (hq : q ≠ qd c) : payers c (rs1 q) = {c} := if_neg hq
theorem pay_rr1 {q : Fin 8} (hq : q ≠ qd c) : payers c (rr1 q) = {dev (pd c) q} := if_neg hq
theorem pay_rr1' {q : Fin 8} (hq : q ≠ qd c) : payers (dev (pd c) q) (rr1 (qd c)) = {c} := by
  rw [pay_rr1 (by rw [qd_dev]; exact Ne.symm hq), pd_dev, dev_pd_qd]
theorem pay_rs2 {p : Fin 4} (hp : p ≠ pd c) : payers c (rs2 p) = {c} := if_neg hp
theorem pay_rr2 {p : Fin 4} (hp : p ≠ pd c) : payers c (rr2 p) = {dev p (qd c)} := if_neg hp
theorem pay_rr2' {p : Fin 4} (hp : p ≠ pd c) : payers (dev p (qd c)) (rr2 (pd c)) = {c} := by
  rw [pay_rr2 (by rw [pd_dev]; exact Ne.symm hp), qd_dev, dev_pd_qd]

theorem w1_ne {q : Fin 8} (hq : q ≠ qd c) : w1 c q = tallyAt (cell (dev (pd c) q) (rr1 (qd c))) () N1 := if_neg hq
theorem w2_ne {p : Fin 4} (hp : p ≠ pd c) : w2 c p = tallyAt (cell (dev p (qd c)) (rr2 (pd c))) () N2 := if_neg hp

/-- A copy, by the semaphores of its two ends. -/
theorem send_one {sh : Shape} {src dst : Memref sig .tc .vmem sh .bf16} (r r' : Ro) (d : Dev nD) {N : ℕ} {O O' : CellTallies nD τ sig Unit} {fs : Buf (Elt F) (src.view.loc (c : Thread nD τ))}
    {fd : Buf (Elt F) (dst.view.loc (d : Thread nD τ))} (hp : payers c r = {c}) (hp' : payers d r' = {c}) (ha : amt c r c = N) (ha' : amt d r' c = N)
    {sS sR : DmaSem sig} (hS : rsem r = .dma sS) (hR : rsem r' = .dma sR) (hN : dst.view.amount (.dma sR) = N)
    (hO : O' = O + tallyAt (cell d r') () N)
    (h₁ : (src.view.loc (c : Thread nD τ) ↦[src.view.set]{fullShare} fs) ⊢ hand X W c r c)
    (h₂ : (dst.view.loc (d : Thread nD τ) ↦[dst.view.set]{fullShare} (dst.view.write (Elt F) fd (src.view.read (Elt F) fs) Finset.univ)) ⊢ hand X W d r' c)
    {hsc h1 h2 h3} :
    iprop(recs X W K ∗ ow c O' ∗ (src.view.loc (c : Thread nD τ) ↦[src.view.set]{fullShare} fs) ∗ (dst.view.loc (d : Thread nD τ) ↦[dst.view.set]{fullShare} fd)
        ∗ dutyTok ER (cell c r) 0 c ∗ dutyTok ER (cell d r') 0 c)
      ⊢ iprop((cred (tallyAt (cell c r) () N) ∗ ow c O -∗ wpc c (k ⟨⟩) Q)
        -∗ wpc c (.op (.enqueueDma src (.remote (Dev.tc (d : Dev nD)) dst (.dma sS) hsc) (.dma sR) h1 h2 h3) k) Q) := by
  have d₁ := mem_one (X := X) (W := W) hp
  have d₂ := mem_one (X := X) (W := W) hp'
  have a₁ := (amount_cell X W c r c).trans ha
  have a₂ := (amount_cell X W d r' c).trans ha'
  have p₁ := h₁.trans (pay_in c r c)
  have p₂ := h₂.trans (pay_in d r' c)
  have i₁ := recs_inv X W K c r
  have i₂ := recs_inv X W K d r'
  have e₁ := recs_reached X W K c r
  have e₂ := recs_reached X W K d r'
  unfold cell at d₁ d₂ a₁ a₂ p₁ p₂ i₁ i₂ e₁ e₂ hO ⊢
  rw [hS] at d₁ a₁ p₁ i₁ e₁ ⊢
  rw [hR] at d₂ a₂ p₂ i₂ e₂ hO ⊢
  unfold ow
  iintro ⟨#HR, ⟨%V, HO⟩, Hs, Hd, Ht1, Ht2⟩ Hk
  ihave #HI1 := i₁ $$ HR
  ihave #HP1 := e₁ $$ HR
  ihave #HI2 := i₂ $$ HR
  ihave #HP2 := e₂ $$ HR
  iapply (Rounds.wp_send_pointsTo 𝒱₀ ER (Rd X W) (c : Thread nD τ) none (κ₁ := K (c, r)) (κ₂ := K (d, r'))
    (r₁ := 0) (r₂ := 0) (d₁ := c) (d₂ := c) (fs := fs) (fd := fd) d₁ d₂ () () N hN a₁ a₂ O hO p₁ p₂) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact HP1
    isplitl [Ht2]; · iexact Ht2
    iexact HP2
  iintro ⟨Hc, HO⟩
  iapply Hk
  isplitl [Hc]; · iexact Hc
  iexists _; iexact HO

theorem src1_pt {d : Dev nD} {q : Fin 8} {os : Fin 3 → ℕ} {ins hrs} (h : os = ![4 * q.val, 0, 0]) {f : Vec F S32x64x64 .bf16} :
    yPt d (ySlab q) f = ((yM.slice (Rect.unit (s := S32x64x64) os S4x64x64.size ins) hrs).view.loc (d : Thread nD τ) ↦[(yM.slice (Rect.unit (s := S32x64x64) os S4x64x64.size ins) hrs).view.set]{fullShare} f : sProp (MT nD τ sig Unit (Elt F) ℕ UU ℕ)) :=
  congrArg (fun I => (yM.view.loc (d : Thread nD τ) ↦[I]{fullShare} f : sProp (MT nD τ sig Unit (Elt F) ℕ UU ℕ))) (src1_set (inb := ins) (hr := hrs) q h).symm
theorem dst1_pt {d : Dev nD} {q : Fin 8} {od : Fin 4 → ℕ} {ind hrd hsd} (h : od = ![q.val, 0, 0, 0]) {f : Vec F S8x4x64x64 .bf16} :
    stPt d (stSlot q) f = (((stM.slice (Rect.unit (s := S8x4x64x64) od S1x4x64x64.size ind) hrd).squeeze S4x64x64 hsd).view.loc (d : Thread nD τ) ↦[((stM.slice (Rect.unit (s := S8x4x64x64) od S1x4x64x64.size ind) hrd).squeeze S4x64x64 hsd).view.set]{fullShare} f : sProp (MT nD τ sig Unit (Elt F) ℕ UU ℕ)) :=
  congrArg (fun I => (stM.view.loc (d : Thread nD τ) ↦[I]{fullShare} f : sProp (MT nD τ sig Unit (Elt F) ℕ UU ℕ))) (dst1_set (inb := ind) (hr := hrd) (hs := hsd) q h).symm
theorem src2_pt {d : Dev nD} {p : Fin 4} {os : Fin 3 → ℕ} {ins hrs hss} (h : os = ![p.val, 0, 0]) {f : Vec F S4x512x64 .bf16} :
    s2Pt d (s2Slab p) f = (((s2M.slice (Rect.unit (s := S4x512x64) os S1x512x64.size ins) hrs).squeeze S512x64 hss).view.loc (d : Thread nD τ) ↦[((s2M.slice (Rect.unit (s := S4x512x64) os S1x512x64.size ins) hrs).squeeze S512x64 hss).view.set]{fullShare} f : sProp (MT nD τ sig Unit (Elt F) ℕ UU ℕ)) :=
  congrArg (fun I => (s2M.view.loc (d : Thread nD τ) ↦[I]{fullShare} f : sProp (MT nD τ sig Unit (Elt F) ℕ UU ℕ))) (src2_set (inb := ins) (hr := hrs) (hs := hss) p h).symm
theorem dst2_pt {d : Dev nD} {p : Fin 4} {od : Fin 2 → ℕ} {ind hrd} (h : od = ![512 * p.val, 0]) {f : Vec F S2048x64 .bf16} :
    oPt d (outBlk p) f = ((oM.slice (Rect.unit (s := S2048x64) od S512x64.size ind) hrd).view.loc (d : Thread nD τ) ↦[(oM.slice (Rect.unit (s := S2048x64) od S512x64.size ind) hrd).view.set]{fullShare} f : sProp (MT nD τ sig Unit (Elt F) ℕ UU ℕ)) :=
  congrArg (fun I => (oM.view.loc (d : Thread nD τ) ↦[I]{fullShare} f : sProp (MT nD τ sig Unit (Elt F) ℕ UU ℕ))) (dst2_set (inb := ind) (hr := hrd) p h).symm
theorem hand_rs1 (d : Dev nD) (q : Fin 8) (e : Dev nD) : hand X W d (rs1 q) e = yPt d (ySlab q) (ybuf X W d) := rfl
theorem hand_rr1 (d : Dev nD) (q : Fin 8) (e : Dev nD) : hand X W d (rr1 q) e = stPt d (stSlot q) (stbuf X W d) := rfl
theorem hand_rs2 (d : Dev nD) (p : Fin 4) (e : Dev nD) : hand X W d (rs2 p) e = s2Pt d (s2Slab p) (s2buf X W d) := rfl
theorem hand_rr2 (d : Dev nD) (p : Fin 4) (e : Dev nD) : hand X W d (rr2 p) e = oPt d (outBlk p) (outbuf X W d) := rfl
theorem amt_rs1 (d : Dev nD) (q : Fin 8) (e : Dev nD) : amt d (rs1 q) e = N1 := rfl
theorem amt_rr1 (d : Dev nD) (q : Fin 8) (e : Dev nD) : amt d (rr1 q) e = N1 := rfl
theorem amt_rs2 (d : Dev nD) (p : Fin 4) (e : Dev nD) : amt d (rs2 p) e = N2 := rfl
theorem amt_rr2 (d : Dev nD) (p : Fin 4) (e : Dev nD) : amt d (rr2 p) e = N2 := rfl

/-- The copy's source, at the points-to it is read through, is what its send cell is to be handed. -/
theorem give1s {q : Fin 8} {os : Fin 3 → ℕ} {ins hrs} (hos : os = ![4 * q.val, 0, 0]) :
    ((yM.slice (Rect.unit (s := S32x64x64) os S4x64x64.size ins) hrs).view.loc (c : Thread nD τ) ↦[(yM.slice (Rect.unit (s := S32x64x64) os S4x64x64.size ins) hrs).view.set]{fullShare} ybuf X W c : sProp (MT nD τ sig Unit (Elt F) ℕ UU ℕ))
      ⊢ hand X W c (rs1 q) c :=
  Entails.of_eq ((src1_pt (F := F) (d := c) hos).symm.trans (hand_rs1 (X := X) (W := W) c q c).symm)

/-- What has landed at the far end is what its receive cell is to be handed. -/
theorem give1r {q : Fin 8} {os : Fin 3 → ℕ} {ins hrs} (hos : os = ![4 * q.val, 0, 0]) {od : Fin 4 → ℕ} {ind hrd hsd} (hod : od = ![(qd c).val, 0, 0, 0]) (fd : Vec F S8x4x64x64 .bf16) :
    (((stM.slice (Rect.unit (s := S8x4x64x64) od S1x4x64x64.size ind) hrd).squeeze S4x64x64 hsd).view.loc ((dev (pd c) q : Dev nD) : Thread nD τ) ↦[((stM.slice (Rect.unit (s := S8x4x64x64) od S1x4x64x64.size ind) hrd).squeeze S4x64x64 hsd).view.set]{fullShare}
          ((stM.slice (Rect.unit (s := S8x4x64x64) od S1x4x64x64.size ind) hrd).squeeze S4x64x64 hsd).view.write (Elt F) fd ((yM.slice (Rect.unit (s := S32x64x64) os S4x64x64.size ins) hrs).view.read (Elt F) (ybuf X W c)) Finset.univ : sProp (MT nD τ sig Unit (Elt F) ℕ UU ℕ))
      ⊢ hand X W (dev (pd c) q) (rr1 (qd c)) c :=
  (Entails.of_eq (dst1_pt (F := F) (d := dev (pd c) q) hod).symm).trans
    ((stPt_congr (land1 X W c q hos hod fd)).trans (Entails.of_eq (hand_rr1 (X := X) (W := W) (dev (pd c) q) (qd c) c).symm))

/-- One copy to a peer, in the names of the pieces it moves. -/
theorem copy1 {q : Fin 8} (hq : q ≠ qd c) {os : Fin 3 → ℕ} {ins hrs} (hos : os = ![4 * q.val, 0, 0]) {od : Fin 4 → ℕ} {ind hrd hsd} (hod : od = ![(qd c).val, 0, 0, 0]) (fd : Vec F S8x4x64x64 .bf16)
    {O O' : CellTallies nD τ sig Unit} (hO : O' = O + tallyAt (cell (dev (pd c) q) (rr1 (qd c))) () N1) {hsc h1 h2 h3} :
    iprop(recs X W K ∗ ow c O' ∗ yPt c (ySlab q) (ybuf X W c) ∗ stPt (dev (pd c) q) (stSlot (qd c)) fd
        ∗ dutyTok ER (cell c (rs1 q)) 0 c ∗ dutyTok ER (cell (dev (pd c) q) (rr1 (qd c))) 0 c)
      ⊢ iprop((cred (tallyAt (cell c (rs1 q)) () N1) ∗ ow c O -∗ wpc c (k ⟨⟩) Q)
        -∗ wpc c (.op (.enqueueDma (yM.slice (Rect.unit (s := S32x64x64) os S4x64x64.size ins) hrs)
          (.remote (Dev.tc (dev (pd c) q : Dev nD)) ((stM.slice (Rect.unit (s := S8x4x64x64) od S1x4x64x64.size ind) hrd).squeeze S4x64x64 hsd) (.dma (cc0_scratch3.ix (ix1 q))) hsc)
          (.dma (cc0_scratch4.ix (ix1 (qd c)))) h1 h2 h3) k) Q) := by
  have g₁ := give1s (X := X) (W := W) (c := c) (ins := ins) (hrs := hrs) hos
  have g₂ := give1r (X := X) (W := W) (c := c) (ins := ins) (hrs := hrs) hos (ind := ind) (hrd := hrd) (hsd := hsd) hod fd
  rw [src1_pt (F := F) (d := c) (q := q) (ins := ins) (hrs := hrs) hos, dst1_pt (F := F) (d := dev (pd c) q) (q := qd c) (ind := ind) (hrd := hrd) (hsd := hsd) hod]
  have key := send_one (X := X) (W := W) (K := K) (k := k) (Q := Q) (c := c) (sh := S4x64x64) (src := (yM.slice (Rect.unit (s := S32x64x64) os S4x64x64.size ins) hrs)) (dst := ((stM.slice (Rect.unit (s := S8x4x64x64) od S1x4x64x64.size ind) hrd).squeeze S4x64x64 hsd)) (rs1 q) (rr1 (qd c)) (dev (pd c) q) (N := N1) (O := O) (O' := O')
    (fs := ybuf X W c) (fd := fd) (sS := cc0_scratch3.ix (ix1 q)) (sR := cc0_scratch4.ix (ix1 (qd c))) (pay_rs1 hq) (pay_rr1' hq) (amt_rs1 _ _ _) (amt_rr1 _ _ _) rfl rfl rfl hO
  exact key g₁ g₂ (hsc := hsc) (h1 := h1) (h2 := h2) (h3 := h3)

/-- The copy to the next peer, from the state before it to the state after. -/
theorem st_send1 {y n1 : ℕ} (hn : n1 < 8) (hy : 8 * (n1 / 2) + 8 ≤ y) (hq : (⟨n1, hn⟩ : Fin 8) ≠ qd c) {e : Dev nD} (he : e = dev (pd c) ⟨n1, hn⟩)
    {os : Fin 3 → ℕ} {ins hrs} (hos : os = ![4 * n1, 0, 0]) {od : Fin 4 → ℕ} {ind hrd hsd} (hod : od = ![(qd c).val, 0, 0, 0])
    {sS sR : DmaSem sig} (hS : sS = cc0_scratch3.ix (ix1 ⟨n1, hn⟩)) (hR : sR = cc0_scratch4.ix (ix1 (qd c))) {hsc h1 h2 h3}
    (h : St X W K c 10 1 y (n1 + 1) 0 0 0 0 0 0 0 0 ⊢ wpc c (k ⟨⟩) Q) :
    St X W K c 10 1 y n1 0 0 0 0 0 0 0 0
      ⊢ wpc c (.op (.enqueueDma (yM.slice (Rect.unit (s := S32x64x64) os S4x64x64.size ins) hrs)
          (.remote (Dev.tc (e : Dev nD)) ((stM.slice (Rect.unit (s := S8x4x64x64) od S1x4x64x64.size ind) hrd).squeeze S4x64x64 hsd) (.dma sS) hsc)
          (.dma sR) h1 h2 h3) k) Q := by
  subst he hS hR
  unfold St
  iintro ⟨#HR, HO, Hx, Hw, HA, HB, HY, HS1, HD1, Hs⟩
  ihave HY := (yS_send X W c hn hy hq) $$ HY
  icases HY with ⟨HY, BY⟩
  ihave HS1 := (s1S_send X W c hn (Nat.zero_le _) hq) $$ HS1
  icases HS1 with ⟨⟨⟨Ht1, Ht2⟩, Ha⟩, BS1⟩
  ihave HD1 := (d1S_send c hn Nat.one_ne_zero hq) $$ HD1
  icases HD1 with ⟨⟨%fd, HD⟩, BD1⟩
  iapply (copy1 (X := X) (W := W) (K := K) (q := ⟨n1, hn⟩) hq hos hod fd (O := Owed c 10 (n1 + 1) 0) ((Owed_w1 c 10 ⟨n1, hn⟩ 0).trans (by rw [w1_ne hq]))) $$ [HO HY HD Ht1 Ht2]
  · iframe HR HO HY HD Ht1 Ht2
  iintro ⟨Hc, HO⟩
  iapply h
  unfold St
  iframe HR HO Hx Hw HA HB Hs
  isplitl [BY]; · iapply BY; iempintro
  isplitl [BS1 Hc Ha]
  · iapply BS1
    isplitl [Hc]; · iexact Hc
    iexact Ha
  iapply BD1; iempintro

/-- Passing its own place with a copy changes nothing it holds. -/
theorem st_skip1 {y n1 : ℕ} (hn : n1 < 8) (hq : ¬ (⟨n1, hn⟩ : Fin 8) ≠ qd c) :
    St X W K c 10 1 y n1 0 0 0 0 0 0 0 0 = St X W K c 10 1 y (n1 + 1) 0 0 0 0 0 0 0 0 := by
  have hq := not_not.mp hq
  unfold St
  rw [yS_skip X W c hn hq, s1S_skip X W c hn hq, d1S_skip c hn hq, Owed_w1 c 10 ⟨n1, hn⟩ 0]
  rw [show w1 c ⟨n1, hn⟩ = 0 from if_pos hq, add_zero]

/-! ## Its own slot, and the arrivals -/

theorem st_loadOwn {g : ℕ} (hg : g < 4) {off : Fin 3 → ℕ} {inb} {hl} (ho : off = ![4 * (qd c).val + g, 0, 0]) {k : Vec F S1x64x64 .bf16 → Prog (TpuEff nD τ sig (Elt F) Λ₀ .tc) α}
    (h : St X W K c 10 1 32 8 g 0 0 0 0 0 0 0 ⊢ wpc c (k ((yM.access (Rect.unit (s := S32x64x64) off S1x64x64.size inb)).read (Elt F) (ybuf X W c))) Q) :
    St X W K c 10 1 32 8 g 0 0 0 0 0 0 0
      ⊢ wpc c (.op (.load yM (Rect.unit (s := S32x64x64) off S1x64x64.size inb).toLoadRect hl) k) Q := by
  unfold St
  iintro ⟨HR, HO, Hx, Hw, HA, HB, HY, Hs⟩
  ihave HY := (yS_own X W c 8 ⟨g, hg⟩) $$ HY
  icases HY with ⟨Hf, HY⟩
  iapply (loadY (set_yRow (qd c) ⟨g, hg⟩ ho).subset) $$ Hf
  iintro Hf
  iapply h
  unfold St
  iframe HR HO Hx Hw HA HB Hs
  iapply HY
  iexact Hf

theorem st_deadSt {g : ℕ} (hg : g < 4) {off : Fin 4 → ℕ} {inb} {hl} (ho : off = ![(qd c).val, g, 0, 0])
    {p : Prog (TpuEff nD τ sig (Elt F) Λ₀ .tc) α}
    (h : St X W K c 10 1 32 8 g 0 0 0 0 0 0 0 ⊢ wpc c p Q) :
    St X W K c 10 1 32 8 g 0 0 0 0 0 0 0
      ⊢ wpc c (.op (.load stM (Rect.unit (s := S8x4x64x64) off S1x1x64x64.size inb).toLoadRect hl) fun _ => p) Q := by
  unfold St
  iintro ⟨HR, HO, Hx, Hw, HA, HB, HY, HS1, HD1, HG, Hs⟩
  ihave HG := (gS_look X W c hg) $$ HG
  icases HG with ⟨⟨%f, Hf⟩, HG⟩
  iapply (loadSt (set_stRow (qd c) ⟨g, hg⟩ ho).subset) $$ Hf
  iintro Hf
  iapply h
  unfold St
  iframe HR HO Hx Hw HA HB HY HS1 HD1 Hs
  iapply HG
  iexists f
  iexact Hf

theorem st_storeSt {g : ℕ} (hg : g < 4) {off : Fin 3 → ℕ} {inb} (ho : off = ![4 * (qd c).val + g, 0, 0]) {off' : Fin 4 → ℕ} {inb'} (ho' : off' = ![(qd c).val, g, 0, 0])
    {h1 : S1x64x64.ShapeCasts S64x64} {h2 : S64x64.ShapeCasts S1x1x64x64} {v} {hx} {hm}
    (hv : v = shapeCast S1x1x64x64 (shapeCast S64x64 ((yM.access (Rect.unit (s := S32x64x64) off S1x64x64.size inb)).read (Elt F) (ybuf X W c) : Vec F S1x64x64 .bf16) h1) h2)
    (h : St X W K c 10 1 32 8 (g + 1) 0 0 0 0 0 0 0 ⊢ wpc c (k ⟨⟩) Q) :
    St X W K c 10 1 32 8 g 0 0 0 0 0 0 0
      ⊢ wpc c (.op (.store stM (Rect.unit (s := S8x4x64x64) off' S1x1x64x64.size inb') v Finset.univ hx hm) k) Q := by
  subst hv
  unfold St
  iintro ⟨HR, HO, Hx, Hw, HA, HB, HY, HS1, HD1, HG, Hs⟩
  ihave HG := (gS_take X W c hg) $$ HG
  icases HG with ⟨⟨%f, Hf⟩, HG⟩
  iapply (storeSt' (set_stRow (qd c) ⟨g, hg⟩ ho') (storeSt X W c ⟨g, hg⟩ ho ho' f)) $$ Hf
  iintro Hf
  iapply h
  unfold St
  iframe HR HO Hx Hw HA HB HY HS1 HD1 Hs
  iapply HG
  iexact Hf

theorem st_wait1 {m1 : ℕ} (hm : m1 < 8) (hq : (⟨m1, hm⟩ : Fin 8) ≠ qd c) {sh sh' : Shape} {ee ee' : EltTy} {src : Memref sig .tc .vmem sh ee} {dst : Memref sig .tc .vmem sh' ee'}
    {sR : DmaSem sig} (hR : sR = cc0_scratch4.ix (ix1 ⟨m1, hm⟩)) (hN : dst.view.dmaCredit = N1) {h1 h2}
    (h : St X W K c 10 1 32 8 4 (m1 + 1) 0 0 0 0 0 0 ⊢ wpc c (k ⟨⟩) Q) :
    St X W K c 10 1 32 8 4 m1 0 0 0 0 0 0 ⊢ wpc c (.op (.waitDma2 sR src dst h1 h2) k) Q := by
  subst hR
  unfold St
  iintro ⟨#HR, HO, Hx, Hw, HA, HB, HY, HS1, HD1, HG, HR1, Hs⟩
  ihave HR1 := (r1S_take X W c hm hq) $$ HR1
  icases HR1 with ⟨⟨Hc, Ha⟩, HR1⟩
  iapply (wait_one (X := X) (W := W) (K := K) (rr1 ⟨m1, hm⟩) (dev (pd c) ⟨m1, hm⟩) (cut := 2) (sg := 10) (n1 := 8) (n2 := 0) (N := N1) (pay_rr1 hq) rfl (Nat.le_refl 2)
    (fun h => absurd h (by decide)) (fun h => absurd h (by decide)) (fun _ => by decide)
    (fun G => (wpE_waitDma2_eq 𝒱₀ (c : Thread nD τ) none Set.univ G).trans (by rw [hN]))) $$ [HO Hc Ha]
  · isplitr; · iexact HR
    isplitl [HO]; · iexact HO
    isplitl [Hc]; · iexact Hc
    iexact Ha
  iintro ⟨HO, Ha, Hp⟩
  iapply h
  unfold St
  iframe HR HO Hx Hw HA HB HY HS1 HD1 HG Hs
  iapply HR1
  isplitl [Ha]; · iexact Ha
  ihave Hp := (Entails.of_eq (hand_rr1 (X := X) (W := W) _ _ _)) $$ Hp
  iexact Hp
theorem st_skipw1 {m1 : ℕ} (hm : m1 < 8) (hq : ¬ (⟨m1, hm⟩ : Fin 8) ≠ qd c) :
    St X W K c 10 1 32 8 4 m1 0 0 0 0 0 0 = St X W K c 10 1 32 8 4 (m1 + 1) 0 0 0 0 0 0 := by
  unfold St; rw [r1S_skip X W c hm (not_not.mp hq)]

/-! ## Stacking -/

theorem st_loadSlot {z : ℕ} {off : Fin 4 → ℕ} {inb} {hl} (ho : off = ![(zq z).val, (zp z).val, 0, 0]) {k : Vec F S1x1x64x64 .bf16 → Prog (TpuEff nD τ sig (Elt F) Λ₀ .tc) α}
    (h : St X W K c 10 1 32 8 4 8 z 0 0 0 0 0 ⊢ wpc c (k ((stM.access (Rect.unit (s := S8x4x64x64) off S1x1x64x64.size inb)).read (Elt F) (stbuf X W c))) Q) :
    St X W K c 10 1 32 8 4 8 z 0 0 0 0 0
      ⊢ wpc c (.op (.load stM (Rect.unit (s := S8x4x64x64) off S1x1x64x64.size inb).toLoadRect hl) k) Q := by
  unfold St
  iintro ⟨HR, HO, Hx, Hw, HA, HB, HY, HS1, HD1, HG, HR1, Hs⟩
  ihave HG := (slot_take X W c (zq z)) $$ [HG HR1]
  · isplitl [HG]; · iexact HG
    iexact HR1
  icases HG with ⟨Hf, HG⟩
  have hsub : stRow (zq z) (zp z) ⊆ stSlot (zq z) := by rw [stSlot_eq]; exact Finset.subset_biUnion_of_mem (stRow (zq z)) (Finset.mem_univ (zp z))
  iapply (loadSt ((set_stRow (zq z) (zp z) ho).subset.trans hsub)) $$ Hf
  iintro Hf
  iapply h
  unfold St
  ihave HG := HG $$ Hf
  icases HG with ⟨HG, HR1⟩
  iframe

theorem st_looseS2 {z : ℕ} (hz : z < 32) {off : Fin 3 → ℕ} {inb} {hl} (ho : off = ![(zp z).val, 64 * (zq z).val, 0])
    {k : _ → Prog (TpuEff nD τ sig (Elt F) Λ₀ .tc) α}
    (h : ∀ v, St X W K c 10 1 32 8 4 8 z 0 0 0 0 0 ⊢ wpc c (k v) Q) :
    St X W K c 10 1 32 8 4 8 z 0 0 0 0 0
      ⊢ wpc c (.op (.load s2M (Rect.unit (s := S4x512x64) off S1x64x64.size inb).toLoadRect hl) k) Q := by
  unfold St
  iintro ⟨HR, HO, Hx, Hw, HA, HB, HY, HS1, HD1, HG, HR1, HZ, Hs⟩
  ihave HZ := (zS_look X W c hz) $$ HZ
  icases HZ with ⟨⟨%f, Hf⟩, HZ⟩
  iapply (loadS2 (set_s2Row (zp z) (zq z) ho).subset) $$ Hf
  iintro Hf
  iapply h _
  unfold St
  iframe HR HO Hx Hw HA HB HY HS1 HD1 HG HR1 Hs
  iapply HZ
  iexists f
  iexact Hf

theorem st_deadS2 {z : ℕ} (hz : z < 32) {off : Fin 3 → ℕ} {inb} {hl} (ho : off = ![(zp z).val, 64 * (zq z).val, 0])
    {p : Prog (TpuEff nD τ sig (Elt F) Λ₀ .tc) α}
    (h : St X W K c 10 1 32 8 4 8 z 0 0 0 0 0 ⊢ wpc c p Q) :
    St X W K c 10 1 32 8 4 8 z 0 0 0 0 0
      ⊢ wpc c (.op (.load s2M (Rect.unit (s := S4x512x64) off S1x64x64.size inb).toLoadRect hl) fun _ => p) Q := by
  exact st_looseS2 hz ho fun _ => h

theorem st_storeS2 {z : ℕ} (hz : z < 32) {off : Fin 4 → ℕ} {inb} (ho : off = ![(zq z).val, (zp z).val, 0, 0]) {off' : Fin 3 → ℕ} {inb'} (ho' : off' = ![(zp z).val, 64 * (zq z).val, 0])
    {h1 : S1x1x64x64.ShapeCasts S64x64} {h2 : S64x64.ShapeCasts S1x64x64} {v} {hx} {hm}
    (hv : v = shapeCast S1x64x64 (shapeCast S64x64 ((stM.access (Rect.unit (s := S8x4x64x64) off S1x1x64x64.size inb)).read (Elt F) (stbuf X W c) : Vec F S1x1x64x64 .bf16) h1) h2)
    (h : St X W K c 10 1 32 8 4 8 (z + 1) 0 0 0 0 0 ⊢ wpc c (k ⟨⟩) Q) :
    St X W K c 10 1 32 8 4 8 z 0 0 0 0 0
      ⊢ wpc c (.op (.store s2M (Rect.unit (s := S4x512x64) off' S1x64x64.size inb') v Finset.univ hx hm) k) Q := by
  subst hv
  unfold St
  iintro ⟨HR, HO, Hx, Hw, HA, HB, HY, HS1, HD1, HG, HR1, HZ, Hs⟩
  ihave HZ := (zS_take X W c hz) $$ HZ
  icases HZ with ⟨⟨%f, Hf⟩, HZ⟩
  iapply (storeS2' (set_s2Row (zp z) (zq z) ho') (storeS2 X W c (zp z) (zq z) ho ho' f)) $$ Hf
  iintro Hf
  iapply h
  unfold St
  iframe HR HO Hx Hw HA HB HY HS1 HD1 HG HR1 Hs
  iapply HZ
  iexact Hf

/-! ## Copies along the column -/

/-- The copy's source, at the points-to it is read through, is what its send cell is to be handed. -/
theorem give2s {q : Fin 4} {os : Fin 3 → ℕ} {ins hrs hss} (hos : os = ![q.val, 0, 0]) :
    (((s2M.slice (Rect.unit (s := S4x512x64) os S1x512x64.size ins) hrs).squeeze S512x64 hss).view.loc (c : Thread nD τ) ↦[((s2M.slice (Rect.unit (s := S4x512x64) os S1x512x64.size ins) hrs).squeeze S512x64 hss).view.set]{fullShare} s2buf X W c : sProp (MT nD τ sig Unit (Elt F) ℕ UU ℕ))
      ⊢ hand X W c (rs2 q) c :=
  Entails.of_eq ((src2_pt (F := F) (d := c) hos).symm.trans (hand_rs2 (X := X) (W := W) c q c).symm)

/-- What has landed at the far end is what its receive cell is to be handed. -/
theorem give2r {q : Fin 4} {os : Fin 3 → ℕ} {ins hrs hss} (hos : os = ![q.val, 0, 0]) {od : Fin 2 → ℕ} {ind hrd} (hod : od = ![512 * (pd c).val, 0]) (fd : Vec F S2048x64 .bf16) :
    ((oM.slice (Rect.unit (s := S2048x64) od S512x64.size ind) hrd).view.loc ((dev q (qd c) : Dev nD) : Thread nD τ) ↦[(oM.slice (Rect.unit (s := S2048x64) od S512x64.size ind) hrd).view.set]{fullShare}
          (oM.slice (Rect.unit (s := S2048x64) od S512x64.size ind) hrd).view.write (Elt F) fd (((s2M.slice (Rect.unit (s := S4x512x64) os S1x512x64.size ins) hrs).squeeze S512x64 hss).view.read (Elt F) (s2buf X W c)) Finset.univ : sProp (MT nD τ sig Unit (Elt F) ℕ UU ℕ))
      ⊢ hand X W (dev q (qd c)) (rr2 (pd c)) c :=
  (Entails.of_eq (dst2_pt (F := F) (d := dev q (qd c)) hod).symm).trans
    ((oPt_congr (land2 X W c q hos hod fd)).trans (Entails.of_eq (hand_rr2 (X := X) (W := W) (dev q (qd c)) (pd c) c).symm))

/-- One copy to a peer, in the names of the pieces it moves. -/
theorem copy2 {q : Fin 4} (hq : q ≠ pd c) {os : Fin 3 → ℕ} {ins hrs hss} (hos : os = ![q.val, 0, 0]) {od : Fin 2 → ℕ} {ind hrd} (hod : od = ![512 * (pd c).val, 0]) (fd : Vec F S2048x64 .bf16)
    {O O' : CellTallies nD τ sig Unit} (hO : O' = O + tallyAt (cell (dev q (qd c)) (rr2 (pd c))) () N2) {hsc h1 h2 h3} :
    iprop(recs X W K ∗ ow c O' ∗ s2Pt c (s2Slab q) (s2buf X W c) ∗ oPt (dev q (qd c)) (outBlk (pd c)) fd
        ∗ dutyTok ER (cell c (rs2 q)) 0 c ∗ dutyTok ER (cell (dev q (qd c)) (rr2 (pd c))) 0 c)
      ⊢ iprop((cred (tallyAt (cell c (rs2 q)) () N2) ∗ ow c O -∗ wpc c (k ⟨⟩) Q)
        -∗ wpc c (.op (.enqueueDma ((s2M.slice (Rect.unit (s := S4x512x64) os S1x512x64.size ins) hrs).squeeze S512x64 hss)
          (.remote (Dev.tc (dev q (qd c) : Dev nD)) (oM.slice (Rect.unit (s := S2048x64) od S512x64.size ind) hrd) (.dma (cc0_scratch5.ix (ix1 q))) hsc)
          (.dma (cc0_scratch6.ix (ix1 (pd c)))) h1 h2 h3) k) Q) := by
  have g₁ := give2s (X := X) (W := W) (c := c) (ins := ins) (hrs := hrs) (hss := hss) hos
  have g₂ := give2r (X := X) (W := W) (c := c) (ins := ins) (hrs := hrs) (hss := hss) hos (ind := ind) (hrd := hrd) hod fd
  rw [src2_pt (F := F) (d := c) (p := q) (ins := ins) (hrs := hrs) (hss := hss) hos, dst2_pt (F := F) (d := dev q (qd c)) (p := pd c) (ind := ind) (hrd := hrd) hod]
  have key := send_one (X := X) (W := W) (K := K) (k := k) (Q := Q) (c := c) (sh := S512x64) (src := ((s2M.slice (Rect.unit (s := S4x512x64) os S1x512x64.size ins) hrs).squeeze S512x64 hss)) (dst := (oM.slice (Rect.unit (s := S2048x64) od S512x64.size ind) hrd)) (rs2 q) (rr2 (pd c)) (dev q (qd c)) (N := N2) (O := O) (O' := O')
    (fs := s2buf X W c) (fd := fd) (sS := cc0_scratch5.ix (ix1 q)) (sR := cc0_scratch6.ix (ix1 (pd c))) (pay_rs2 hq) (pay_rr2' hq) (amt_rs2 _ _ _) (amt_rr2 _ _ _) rfl rfl rfl hO
  exact key g₁ g₂ (hsc := hsc) (h1 := h1) (h2 := h2) (h3 := h3)

/-- The copy to the next peer, from the state before it to the state after. -/
theorem st_send2 {n2 : ℕ} (hn : n2 < 4) (hp : (⟨n2, hn⟩ : Fin 4) ≠ pd c) {e : Dev nD} (he : e = dev ⟨n2, hn⟩ (qd c))
    {os : Fin 3 → ℕ} {ins hrs hss} (hos : os = ![n2, 0, 0]) {od : Fin 2 → ℕ} {ind hrd} (hod : od = ![512 * (pd c).val, 0])
    {sS sR : DmaSem sig} (hS : sS = cc0_scratch5.ix (ix1 ⟨n2, hn⟩)) (hR : sR = cc0_scratch6.ix (ix1 (pd c))) {hsc h1 h2 h3}
    (h : St X W K c 10 1 32 8 4 8 32 (n2 + 1) 0 0 0 0 ⊢ wpc c (k ⟨⟩) Q) :
    St X W K c 10 1 32 8 4 8 32 n2 0 0 0 0
      ⊢ wpc c (.op (.enqueueDma ((s2M.slice (Rect.unit (s := S4x512x64) os S1x512x64.size ins) hrs).squeeze S512x64 hss)
          (.remote (Dev.tc (e : Dev nD)) (oM.slice (Rect.unit (s := S2048x64) od S512x64.size ind) hrd) (.dma sS) hsc)
          (.dma sR) h1 h2 h3) k) Q := by
  subst he hS hR
  unfold St
  iintro ⟨#HR, HO, Hx, Hw, HA, HB, HY, HS1, HD1, HG, HR1, HZ, HS2, HD2, Hs⟩
  ihave HZ := (zS_send X W c hn hp) $$ HZ
  icases HZ with ⟨HZ, BZ⟩
  ihave HS2 := (s2S_send X W c hn (Nat.zero_le _) hp) $$ HS2
  icases HS2 with ⟨⟨⟨Ht1, Ht2⟩, Ha⟩, BS2⟩
  ihave HD2 := (d2S_send c hn Nat.one_ne_zero hp) $$ HD2
  icases HD2 with ⟨⟨%fd, HD⟩, BD2⟩
  iapply (copy2 (X := X) (W := W) (K := K) (q := ⟨n2, hn⟩) hp hos hod fd (O := Owed c 10 8 (n2 + 1)) ((Owed_w2 c 10 8 ⟨n2, hn⟩).trans (by rw [w2_ne hp]))) $$ [HO HZ HD Ht1 Ht2]
  · iframe HR HO HZ HD Ht1 Ht2
  iintro ⟨Hc, HO⟩
  iapply h
  unfold St
  iframe HR HO Hx Hw HA HB HY HS1 HD1 HG HR1 Hs
  isplitl [BZ]; · iapply BZ; iempintro
  isplitl [BS2 Hc Ha]
  · iapply BS2
    isplitl [Hc]; · iexact Hc
    iexact Ha
  iapply BD2; iempintro

/-- Passing its own place changes nothing it holds. -/
theorem st_skip2 {n2 : ℕ} (hn : n2 < 4) (hp : ¬ (⟨n2, hn⟩ : Fin 4) ≠ pd c) :
    St X W K c 10 1 32 8 4 8 32 n2 0 0 0 0 = St X W K c 10 1 32 8 4 8 32 (n2 + 1) 0 0 0 0 := by
  have hp := not_not.mp hp
  unfold St
  rw [zS_skip X W c hn hp, s2S_skip X W c hn hp, d2S_skip c hn hp, Owed_w2 c 10 8 ⟨n2, hn⟩]
  rw [show w2 c ⟨n2, hn⟩ = 0 from if_pos hp, add_zero]

/-! ## Its own row block of the result -/

theorem st_loadSlab {off : Fin 3 → ℕ} {inb} {hl} (ho : off = ![(pd c).val, 0, 0]) {k : Vec F S1x512x64 .bf16 → Prog (TpuEff nD τ sig (Elt F) Λ₀ .tc) α}
    (h : St X W K c 10 1 32 8 4 8 32 4 0 0 0 0 ⊢ wpc c (k ((s2M.access (Rect.unit (s := S4x512x64) off S1x512x64.size inb)).read (Elt F) (s2buf X W c))) Q) :
    St X W K c 10 1 32 8 4 8 32 4 0 0 0 0
      ⊢ wpc c (.op (.load s2M (Rect.unit (s := S4x512x64) off S1x512x64.size inb).toLoadRect hl) k) Q := by
  unfold St
  iintro ⟨HR, HO, Hx, Hw, HA, HB, HY, HS1, HD1, HG, HR1, HZ, Hs⟩
  ihave HZ := (zS_own X W c 4) $$ HZ
  icases HZ with ⟨Hf, HZ⟩
  iapply (loadS2slab (set_s2Slab (pd c) ho).subset) $$ Hf
  iintro Hf
  iapply h
  unfold St
  iframe HR HO Hx Hw HA HB HY HS1 HD1 HG HR1 Hs
  iapply HZ
  iexact Hf

theorem st_deadO {off : Fin 2 → ℕ} {inb} {hl} (ho : off = ![512 * (pd c).val, 0])
    {p : Prog (TpuEff nD τ sig (Elt F) Λ₀ .tc) α}
    (h : St X W K c 10 1 32 8 4 8 32 4 0 0 0 0 ⊢ wpc c p Q) :
    St X W K c 10 1 32 8 4 8 32 4 0 0 0 0
      ⊢ wpc c (.op (.load oM (Rect.unit (s := S2048x64) off S512x64.size inb).toLoadRect hl) fun _ => p) Q := by
  unfold St oC
  rw [if_pos rfl]
  iintro ⟨HR, HO, Hx, Hw, HA, HB, HY, HS1, HD1, HG, HR1, HZ, HS2, HD2, ⟨%f, Hf⟩, Hs⟩
  iapply (loadO (set_outBlk (pd c) ho).subset) $$ Hf
  iintro Hf
  iapply h
  unfold St oC
  rw [if_pos rfl]
  iframe HR HO Hx Hw HA HB HY HS1 HD1 HG HR1 HZ HS2 HD2 Hs
  iexists f
  iexact Hf

theorem st_storeO {off : Fin 3 → ℕ} {inb} (ho : off = ![(pd c).val, 0, 0]) {off' : Fin 2 → ℕ} {inb'} (ho' : off' = ![512 * (pd c).val, 0])
    {h1 : S1x512x64.ShapeCasts S512x64} {v} {hx} {hm}
    (hv : v = shapeCast S512x64 ((s2M.access (Rect.unit (s := S4x512x64) off S1x512x64.size inb)).read (Elt F) (s2buf X W c) : Vec F S1x512x64 .bf16) h1)
    (h : St X W K c 10 1 32 8 4 8 32 4 1 0 0 0 ⊢ wpc c (k ⟨⟩) Q) :
    St X W K c 10 1 32 8 4 8 32 4 0 0 0 0
      ⊢ wpc c (.op (.store oM (Rect.unit (s := S2048x64) off' S512x64.size inb') v Finset.univ hx hm) k) Q := by
  subst hv
  unfold St oC
  rw [if_pos rfl]
  iintro ⟨HR, HO, Hx, Hw, HA, HB, HY, HS1, HD1, HG, HR1, HZ, HS2, HD2, ⟨%f, Hf⟩, Hs⟩
  iapply (storeOut' (set_outBlk (pd c) ho') (storeOut X W c ho ho' f)) $$ Hf
  iintro Hf
  iapply h
  unfold St oC
  rw [if_neg Nat.one_ne_zero]
  iframe

/-! ## The last waits -/

theorem st_wait2 {m2 : ℕ} (hm : m2 < 4) (hp : (⟨m2, hm⟩ : Fin 4) ≠ pd c) {sh sh' : Shape} {ee ee' : EltTy} {src : Memref sig .tc .vmem sh ee} {dst : Memref sig .tc .vmem sh' ee'}
    {sR : DmaSem sig} (hR : sR = cc0_scratch6.ix (ix1 ⟨m2, hm⟩)) (hN : dst.view.dmaCredit = N2) {h1 h2}
    (h : St X W K c 10 1 32 8 4 8 32 4 1 (m2 + 1) 0 0 ⊢ wpc c (k ⟨⟩) Q) :
    St X W K c 10 1 32 8 4 8 32 4 1 m2 0 0 ⊢ wpc c (.op (.waitDma2 sR src dst h1 h2) k) Q := by
  subst hR
  unfold St
  iintro ⟨#HR, HO, Hx, Hw, HA, HB, HY, HS1, HD1, HG, HR1, HZ, HS2, HD2, HOO, HR2⟩
  ihave HR2 := (r2S_take X W c hm hp) $$ HR2
  icases HR2 with ⟨⟨Hc, Ha⟩, HR2⟩
  iapply (wait_one (X := X) (W := W) (K := K) (rr2 ⟨m2, hm⟩) (dev ⟨m2, hm⟩ (qd c)) (cut := 3) (sg := 10) (n1 := 8) (n2 := 4) (N := N2) (pay_rr2 hp) rfl (Nat.le_refl 3)
    (fun h => absurd h (by decide)) (fun h => absurd h (by decide)) (fun h => absurd h (by decide))
    (fun G => (wpE_waitDma2_eq 𝒱₀ (c : Thread nD τ) none Set.univ G).trans (by rw [hN]))) $$ [HO Hc Ha]
  · isplitr; · iexact HR
    isplitl [HO]; · iexact HO
    isplitl [Hc]; · iexact Hc
    iexact Ha
  iintro ⟨HO, Ha, Hp⟩
  iapply h
  unfold St
  iframe HR HO Hx Hw HA HB HY HS1 HD1 HG HR1 HZ HS2 HD2 HOO
  iapply HR2
  isplitl [Ha]; · iexact Ha
  ihave Hp := (Entails.of_eq (hand_rr2 (X := X) (W := W) _ _ _)) $$ Hp
  iexact Hp
theorem st_skipw2 {m2 : ℕ} (hm : m2 < 4) (hp : ¬ (⟨m2, hm⟩ : Fin 4) ≠ pd c) :
    St X W K c 10 1 32 8 4 8 32 4 1 m2 0 0 = St X W K c 10 1 32 8 4 8 32 4 1 (m2 + 1) 0 0 := by
  unfold St; rw [r2S_skip X W c hm (not_not.mp hp)]

theorem st_done1 {e1 : ℕ} (he : e1 < 8) (hq : (⟨e1, he⟩ : Fin 8) ≠ qd c) {sh sh' : Shape} {ee ee' : EltTy} {src : Memref sig .tc .vmem sh ee} {dst : Memref sig .tc .vmem sh' ee'}
    {sS : DmaSem sig} (hS : sS = cc0_scratch3.ix (ix1 ⟨e1, he⟩)) (hN : dst.view.dmaCredit = N1) {h1 h2}
    (h : St X W K c 10 1 32 8 4 8 32 4 1 4 (e1 + 1) 0 ⊢ wpc c (k ⟨⟩) Q) :
    St X W K c 10 1 32 8 4 8 32 4 1 4 e1 0 ⊢ wpc c (.op (.waitDma2 sS src dst h1 h2) k) Q := by
  subst hS
  unfold St
  iintro ⟨#HR, HO, Hx, Hw, HA, HB, HY, HS1, Hs⟩
  ihave HS1 := (s1S_done X W c he hq) $$ HS1
  icases HS1 with ⟨⟨Hc, Ha⟩, HS1⟩
  iapply (wait_one (X := X) (W := W) (K := K) (rs1 ⟨e1, he⟩) c (cut := 3) (sg := 10) (n1 := 8) (n2 := 4) (N := N1) (pay_rs1 hq) rfl (Nat.zero_le 3)
    (fun h => absurd h (by decide)) (fun h => absurd h (by decide)) (fun h => absurd h (by decide))
    (fun G => (wpE_waitDma2_eq 𝒱₀ (c : Thread nD τ) none Set.univ G).trans (by rw [hN]))) $$ [HO Hc Ha]
  · isplitr; · iexact HR
    isplitl [HO]; · iexact HO
    isplitl [Hc]; · iexact Hc
    iexact Ha
  iintro ⟨HO, Ha, Hp⟩
  iapply h
  unfold St
  iframe HR HO Hx Hw HA HB HY Hs
  iapply HS1
  isplitl [Ha]; · iexact Ha
  ihave Hp := (Entails.of_eq (hand_rs1 (X := X) (W := W) _ _ _)) $$ Hp
  iexact Hp
theorem st_skipd1 {e1 : ℕ} (he : e1 < 8) (hq : ¬ (⟨e1, he⟩ : Fin 8) ≠ qd c) :
    St X W K c 10 1 32 8 4 8 32 4 1 4 e1 0 = St X W K c 10 1 32 8 4 8 32 4 1 4 (e1 + 1) 0 := by
  unfold St; rw [s1S_skip' X W c he (not_not.mp hq)]

theorem st_done2 {e2 : ℕ} (he : e2 < 4) (hp : (⟨e2, he⟩ : Fin 4) ≠ pd c) {sh sh' : Shape} {ee ee' : EltTy} {src : Memref sig .tc .vmem sh ee} {dst : Memref sig .tc .vmem sh' ee'}
    {sS : DmaSem sig} (hS : sS = cc0_scratch5.ix (ix1 ⟨e2, he⟩)) (hN : dst.view.dmaCredit = N2) {h1 h2}
    (h : St X W K c 10 1 32 8 4 8 32 4 1 4 8 (e2 + 1) ⊢ wpc c (k ⟨⟩) Q) :
    St X W K c 10 1 32 8 4 8 32 4 1 4 8 e2 ⊢ wpc c (.op (.waitDma2 sS src dst h1 h2) k) Q := by
  subst hS
  unfold St
  iintro ⟨#HR, HO, Hx, Hw, HA, HB, HY, HS1, HD1, HG, HR1, HZ, HS2, Hs⟩
  ihave HS2 := (s2S_done X W c he hp) $$ HS2
  icases HS2 with ⟨⟨Hc, Ha⟩, HS2⟩
  iapply (wait_one (X := X) (W := W) (K := K) (rs2 ⟨e2, he⟩) c (cut := 3) (sg := 10) (n1 := 8) (n2 := 4) (N := N2) (pay_rs2 hp) rfl (Nat.zero_le 3)
    (fun h => absurd h (by decide)) (fun h => absurd h (by decide)) (fun h => absurd h (by decide))
    (fun G => (wpE_waitDma2_eq 𝒱₀ (c : Thread nD τ) none Set.univ G).trans (by rw [hN]))) $$ [HO Hc Ha]
  · isplitr; · iexact HR
    isplitl [HO]; · iexact HO
    isplitl [Hc]; · iexact Hc
    iexact Ha
  iintro ⟨HO, Ha, Hp⟩
  iapply h
  unfold St
  iframe HR HO Hx Hw HA HB HY HS1 HD1 HG HR1 HZ Hs
  iapply HS2
  isplitl [Ha]; · iexact Ha
  ihave Hp := (Entails.of_eq (hand_rs2 (X := X) (W := W) _ _ _)) $$ Hp
  iexact Hp
theorem st_skipd2 {e2 : ℕ} (he : e2 < 4) (hp : ¬ (⟨e2, he⟩ : Fin 4) ≠ pd c) :
    St X W K c 10 1 32 8 4 8 32 4 1 4 8 e2 = St X W K c 10 1 32 8 4 8 32 4 1 4 8 (e2 + 1) := by
  unfold St; rw [s2S_skip' X W c he (not_not.mp hp)]

/-! ## What stacking reads, by its number -/

theorem slot_inb (z : ℕ) : ∀ a, (![(zq z).val, (zp z).val, 0, 0] : Fin 4 → ℕ) a + S1x1x64x64.size a ≤ S8x4x64x64.size a := by
  have h1 := (zq z).isLt
  have h2 := (zp z).isLt
  intro a
  match a with
  | ⟨0, _⟩ => exact h1
  | ⟨1, _⟩ => exact h2
  | ⟨2, _⟩ => exact Nat.le_refl 64
  | ⟨3, _⟩ => exact Nat.le_refl 64

/-- The block the `z`-th move of the stacking reads. -/
def slotVal (X : Dev nD → Vec F S64x2048 .bf16) (W : Dev nD → Vec F S2048x2048 .bf16) (c : Dev nD) (z : ℕ) : Vec F S1x1x64x64 .bf16 :=
  (stM.access (Rect.unit (s := S8x4x64x64) ![(zq z).val, (zp z).val, 0, 0] S1x1x64x64.size (slot_inb z))).read (Elt F) (stbuf X W c)

theorem st_readSlot {z : ℕ} {off : Fin 4 → ℕ} {inb} {hl} (ho : off = ![(zq z).val, (zp z).val, 0, 0]) {k : Vec F S1x1x64x64 .bf16 → Prog (TpuEff nD τ sig (Elt F) Λ₀ .tc) α}
    (h : St X W K c 10 1 32 8 4 8 z 0 0 0 0 0 ⊢ wpc c (k (slotVal X W c z)) Q) :
    St X W K c 10 1 32 8 4 8 z 0 0 0 0 0
      ⊢ wpc c (.op (.load stM (Rect.unit (s := S8x4x64x64) off S1x1x64x64.size inb).toLoadRect hl) k) Q := by
  subst ho
  exact st_loadSlot rfl h

theorem st_stack {z : ℕ} (hz : z < 32) {off' : Fin 3 → ℕ} {inb'} (ho' : off' = ![(zp z).val, 64 * (zq z).val, 0])
    {h1 : S1x1x64x64.ShapeCasts S64x64} {h2 : S64x64.ShapeCasts S1x64x64} {v} {hx} {hm}
    (hv : v = shapeCast S1x64x64 (shapeCast S64x64 (slotVal X W c z) h1) h2)
    (h : St X W K c 10 1 32 8 4 8 (z + 1) 0 0 0 0 0 ⊢ wpc c (k ⟨⟩) Q) :
    St X W K c 10 1 32 8 4 8 z 0 0 0 0 0
      ⊢ wpc c (.op (.store s2M (Rect.unit (s := S4x512x64) off' S1x64x64.size inb') v Finset.univ hx hm) k) Q :=
  st_storeS2 hz rfl ho' hv h

/-- One move of the stacking, all three accesses. -/
theorem st_move {z : ℕ} (hz : z < 32) {off : Fin 4 → ℕ} {inb} {hl} (ho : off = ![(zq z).val, (zp z).val, 0, 0]) {off' : Fin 3 → ℕ} {inb' inb''} {hl'} (ho' : off' = ![(zp z).val, 64 * (zq z).val, 0])
    {h1 : S1x1x64x64.ShapeCasts S64x64} {h2 : S64x64.ShapeCasts S1x64x64} {v : Vec F S1x1x64x64 .bf16 → FVec F S1x64x64 .bf16} {hx hm}
    (hv : ∀ u, v u = shapeCast S1x64x64 (shapeCast S64x64 u h1) h2)
    (h : St X W K c 10 1 32 8 4 8 (z + 1) 0 0 0 0 0 ⊢ wpc c (k ⟨⟩) Q) :
    St X W K c 10 1 32 8 4 8 z 0 0 0 0 0
      ⊢ wpc c (.op (.load stM (Rect.unit (s := S8x4x64x64) off S1x1x64x64.size inb).toLoadRect hl) fun u =>
          .op (.load s2M (Rect.unit (s := S4x512x64) off' S1x64x64.size inb').toLoadRect hl') fun _ =>
          .op (.store s2M (Rect.unit (s := S4x512x64) off' S1x64x64.size inb'') (v u) Finset.univ hx hm) k) Q :=
  st_readSlot ho (st_deadS2 hz ho' (st_stack hz ho' (hv _) h))

/-! ## The guarded waits -/

variable {P : Prop} [Decidable P] {β : Type} {e : Prog (TpuEff nD τ sig (Elt F) Λ₀ .tc) β} {kk : β → Prog (TpuEff nD τ sig (Elt F) Λ₀ .tc) α}

theorem g_wait1 {m1 : ℕ} (hm : m1 < 8) (hP : P ↔ qd c ≠ ⟨m1, hm⟩) {sh sh' : Shape} {ee ee' : EltTy} {src : P → Memref sig .tc .vmem sh ee} {dst : P → Memref sig .tc .vmem sh' ee'}
    {sR : P → DmaSem sig} (hR : ∀ h, sR h = cc0_scratch4.ix (ix1 ⟨m1, hm⟩)) (hN : ∀ h, (dst h).view.dmaCredit = N1) {h1 : ∀ h, (src h).view.WordExact} {h2 : ∀ h, (dst h).view.WordExact}
    (hs : St X W K c 10 1 32 8 4 (m1 + 1) 0 0 0 0 0 0 ⊢ wpc c (e >>= kk) Q) :
    St X W K c 10 1 32 8 4 m1 0 0 0 0 0 0 ⊢ wpc c ((if h : P then .op (.waitDma2 (sR h) (src h) (dst h) (h1 h) (h2 h)) (fun _ => e) else e) >>= kk) Q :=
  guard hP (fun h hn k hs => st_wait1 hm (ne_comm.mp hn) (hR h) (hN h) hs) (fun h => st_skipw1 hm (fun h' => h (ne_comm.mp h'))) hs

theorem g_wait2 {m2 : ℕ} (hm : m2 < 4) (hP : P ↔ pd c ≠ ⟨m2, hm⟩) {sh sh' : Shape} {ee ee' : EltTy} {src : P → Memref sig .tc .vmem sh ee} {dst : P → Memref sig .tc .vmem sh' ee'}
    {sR : P → DmaSem sig} (hR : ∀ h, sR h = cc0_scratch6.ix (ix1 ⟨m2, hm⟩)) (hN : ∀ h, (dst h).view.dmaCredit = N2) {h1 : ∀ h, (src h).view.WordExact} {h2 : ∀ h, (dst h).view.WordExact}
    (hs : St X W K c 10 1 32 8 4 8 32 4 1 (m2 + 1) 0 0 ⊢ wpc c (e >>= kk) Q) :
    St X W K c 10 1 32 8 4 8 32 4 1 m2 0 0 ⊢ wpc c ((if h : P then .op (.waitDma2 (sR h) (src h) (dst h) (h1 h) (h2 h)) (fun _ => e) else e) >>= kk) Q :=
  guard hP (fun h hn k hs => st_wait2 hm (ne_comm.mp hn) (hR h) (hN h) hs) (fun h => st_skipw2 hm (fun h' => h (ne_comm.mp h'))) hs

theorem g_done1 {e1 : ℕ} (he : e1 < 8) (hP : P ↔ qd c ≠ ⟨e1, he⟩) {sh sh' : Shape} {ee ee' : EltTy} {src : P → Memref sig .tc .vmem sh ee} {dst : P → Memref sig .tc .vmem sh' ee'}
    {sS : P → DmaSem sig} (hS : ∀ h, sS h = cc0_scratch3.ix (ix1 ⟨e1, he⟩)) (hN : ∀ h, (dst h).view.dmaCredit = N1) {h1 : ∀ h, (src h).view.WordExact} {h2 : ∀ h, (dst h).view.WordExact}
    (hs : St X W K c 10 1 32 8 4 8 32 4 1 4 (e1 + 1) 0 ⊢ wpc c (e >>= kk) Q) :
    St X W K c 10 1 32 8 4 8 32 4 1 4 e1 0 ⊢ wpc c ((if h : P then .op (.waitDma2 (sS h) (src h) (dst h) (h1 h) (h2 h)) (fun _ => e) else e) >>= kk) Q :=
  guard hP (fun h hn k hs => st_done1 he (ne_comm.mp hn) (hS h) (hN h) hs) (fun h => st_skipd1 he (fun h' => h (ne_comm.mp h'))) hs

theorem g_done2 {e2 : ℕ} (he : e2 < 4) (hP : P ↔ pd c ≠ ⟨e2, he⟩) {sh sh' : Shape} {ee ee' : EltTy} {src : P → Memref sig .tc .vmem sh ee} {dst : P → Memref sig .tc .vmem sh' ee'}
    {sS : P → DmaSem sig} (hS : ∀ h, sS h = cc0_scratch5.ix (ix1 ⟨e2, he⟩)) (hN : ∀ h, (dst h).view.dmaCredit = N2) {h1 : ∀ h, (src h).view.WordExact} {h2 : ∀ h, (dst h).view.WordExact}
    (hs : St X W K c 10 1 32 8 4 8 32 4 1 4 8 (e2 + 1) ⊢ wpc c (e >>= kk) Q) :
    St X W K c 10 1 32 8 4 8 32 4 1 4 8 e2 ⊢ wpc c ((if h : P then .op (.waitDma2 (sS h) (src h) (dst h) (h1 h) (h2 h)) (fun _ => e) else e) >>= kk) Q :=
  guard hP (fun h hn k hs => st_done2 he (ne_comm.mp hn) (hS h) (hN h) hs) (fun h => st_skipd2 he (fun h' => h (ne_comm.mp h'))) hs

end

end Cert.KernelIdeal.Rsf

end
-- ==== Proof.PartsA.lean ====
module

public import proofs.«01_k».proof.Proof.Steps
public import proofs.«01_k».proof.Proof.Gen.KernelIdeal.Skeleton

/-! # The kernel's body: the meeting, the products and the copies along the row -/

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]
local notation "𝕄" => MT nD τ sig Unit (Elt F) ℕ UU ℕ

attribute [local irreducible] peer k0_dev1 k0_dev2 k0_dev3 k0_dev4 k0_dev5 k0_dev6 k0_dev7 k0_dev8 k0_dev9 k0_dev10 k0_cond1 k0_cond2 k0_cond3 k0_cond4 k0_cond5 k0_cond6 k0_cond7 k0_cond8

/-- A part of the body over the buffers and semaphore arrays this launch gives it. -/
abbrev onBufs {β : Type 1} (part : (a0 : Memref sig .tc .vmem S64x2048 .bf16) → a0.IsWhole → (a1 : Memref sig .tc .vmem S2048x2048 .bf16) → a1.IsWhole
    → (a2 : Memref sig .tc .vmem S2048x64 .bf16) → a2.IsWhole → (a3 : Memref sig .tc .vmem S32x64x64 .bf16) → a3.IsWhole
    → (a4 : Memref sig .tc .vmem S8x4x64x64 .bf16) → a4.IsWhole → (a5 : Memref sig .tc .vmem S4x512x64 .bf16) → a5.IsWhole
    → DmaSems sig S8 → DmaSems sig S8 → DmaSems sig S4 → DmaSems sig S4 → β) : β :=
  part xM (Memref.isWhole_whole _) wM (Memref.isWhole_whole _) oM (Memref.isWhole_whole _) yM (Memref.isWhole_whole _) stM (Memref.isWhole_whole _)
    s2M (Memref.isWhole_whole _) cc0_scratch3 cc0_scratch4 cc0_scratch5 cc0_scratch6

/-- The barrier's one semaphore, as the body carries it. -/
abbrev barA : Sems sig S_ := SemArray.scalar (sig.barrier 0 rfl)

variable {X : Dev nD → Vec F S64x2048 .bf16} {W : Dev nD → Vec F S2048x2048 .bf16} {K : Dev nD × Ro → ℕ} {c : Dev nD}
variable {Q : PUnit → sProp (MT nD τ sig Unit (Elt F) ℕ UU ℕ)}

theorem pword_eq (c : Dev nD) :
    Scalar.select (Scalar.andi (Scalar.cmpi .ne (Scalar.subi (Scalar.extui (Scalar.cmpi .sgt (Scalar.remsi (Scalar.divsi (Dev.word c) 1#32) 32#32) 0#32) : BitVec 32) (Scalar.extui (Scalar.cmpi .slt (Scalar.remsi (Scalar.divsi (Dev.word c) 1#32) 32#32) 0#32))) (Scalar.subi (Scalar.extui (Scalar.cmpi .sgt 8#32 0#32) : BitVec 32) (Scalar.extui (Scalar.cmpi .slt 8#32 0#32))))
      (Scalar.cmpi .ne (Scalar.remsi (Scalar.remsi (Scalar.divsi (Dev.word c) 1#32) 32#32) 8#32) 0#32)) (Scalar.subi (Scalar.divsi (Scalar.remsi (Scalar.divsi (Dev.word c) 1#32) 32#32) 8#32) 1#32) (Scalar.divsi (Scalar.remsi (Scalar.divsi (Dev.word c) 1#32) 32#32) 8#32)
      = pword c := by revert c; decide +kernel

theorem qword_eq (c : Dev nD) : Scalar.remsi (Scalar.remsi (Scalar.divsi (Dev.word c) 1#32) 32#32) 8#32 = qword c := by
  revert c; decide +kernel

/-- The device learns its number and signals its first two peers. -/
theorem part1 {kk : (Σ' (d0 : Dev nD) (v2 : BitVec 32) (v19 : BitVec 32) (v20 : BitVec 32) (v21 : Sems sig S_), BitVec 32) → Prog (TpuEff nD τ sig (Elt F) Λ₀ .tc) PUnit}
    (h : ∀ v2 v19 v20, v19 = pword c → v20 = qword c → (St X W K c 2 0 0 0 0 0 0 0 0 0 0 0 ⊢ wpc c (kk ⟨c, v2, v19, v20, barA, 8#32⟩) Q)) :
    St X W K c 0 0 0 0 0 0 0 0 0 0 0 0 ⊢ wpc c (onBufs (k0_part1 (F := F)) >>= kk) Q := by
  rw [k0_part1_eq_skeleton]
  unfold k0_part1_skel
  simp only [onBufs, Prog.lift, Prog.bind_op, Prog.bind_ret, Prog.pure_eq_ret, semSignalWord, semWaitWord, wp_deviceId]
  refine st_sig (sg := 0) (by decide) (Fin.ext (dev1_eq c)) (by decide) ?_
  refine st_sig (sg := 1) (by decide) (Fin.ext (dev2_eq c)) (by decide) ?_
  exact h _ _ _ (pword_eq c) (qword_eq c)

/-- Four more signals. -/
theorem part2 {v19 v20 v : BitVec 32} {kk : (Σ' (v61 : BitVec 32), BitVec 32) → Prog (TpuEff nD τ sig (Elt F) Λ₀ .tc) PUnit}
    (h : ∀ v61 v62, St X W K c 6 0 0 0 0 0 0 0 0 0 0 0 ⊢ wpc c (kk ⟨v61, v62⟩) Q) :
    St X W K c 2 0 0 0 0 0 0 0 0 0 0 0 ⊢ wpc c (onBufs (k0_part2 (F := F)) c v19 v20 barA v >>= kk) Q := by
  rw [k0_part2_eq_skeleton]
  unfold k0_part2_skel
  simp -zeta only [onBufs, Prog.lift, Prog.bind_op, Prog.bind_ret, Prog.pure_eq_ret, semSignalWord, semWaitWord]
  refine st_sig (sg := 2) (by decide) (Fin.ext (dev3_eq c)) (by decide) ?_
  refine st_sig (sg := 3) (by decide) (Fin.ext (dev4_eq c)) (by decide) ?_
  refine st_sig (sg := 4) (by decide) (Fin.ext (dev5_eq c)) (by decide) ?_
  refine st_sig (sg := 5) (by decide) (Fin.ext (dev6_eq c)) (by decide) ?_
  exact h _ _

/-- The last signals, and the first columns' product. -/
theorem part3 {v19 v20 v61 v62 : BitVec 32} {kk : (Σ' (v83 : FVec F S64x2048 .bf16) (v87 : FVec F S64x128 .bf16), FVec F S64x64 .bf16) → Prog (TpuEff nD τ sig (Elt F) Λ₀ .tc) PUnit}
    (h : St X W K c 10 0 0 0 0 0 0 0 0 0 0 0 ⊢ wpc c (kk ⟨k0_pay1 (X c), k0_pay2 (X c) (wcol (W c) (yg 0)), k0_pay3 (X c) (wcol (W c) (yg 0))⟩) Q) :
    St X W K c 6 0 0 0 0 0 0 0 0 0 0 0 ⊢ wpc c (onBufs (k0_part3 (F := F)) c v19 v20 barA v61 v62 >>= kk) Q := by
  rw [k0_part3_eq_skeleton]
  unfold k0_part3_skel
  simp -zeta only [onBufs, Prog.lift, Prog.bind_op, Prog.bind_ret, Prog.pure_eq_ret, semSignalWord, semWaitWord]
  refine st_sig (sg := 6) (by decide) (Fin.ext (dev7_eq c)) (by decide) ?_
  refine st_sig (sg := 7) (by decide) (Fin.ext (dev8_eq c)) (by decide) ?_
  refine st_sig (sg := 8) (by decide) (Fin.ext (dev9_eq c)) (by decide) ?_
  refine st_sig (sg := 9) (by decide) (Fin.ext (dev10_eq c)) (by decide) ?_
  refine st_loadX ?_
  refine st_loadWy rfl ?_
  refine st_deadY (by decide) (by decide) rfl ?_
  exact h

/-- Six blocks stored. -/
theorem part4 {kk : FVec F S2048x128 .bf16 → Prog (TpuEff nD τ sig (Elt F) Λ₀ .tc) PUnit}
    (h : St X W K c 10 0 6 0 0 0 0 0 0 0 0 0 ⊢ wpc c (kk (k0_pay12 (wcol (W c) (yg 6)))) Q) :
    St X W K c 10 0 0 0 0 0 0 0 0 0 0 0 ⊢ wpc c (onBufs (k0_part4 (F := F)) (k0_pay1 (X c)) (k0_pay2 (X c) (wcol (W c) (yg 0))) (k0_pay3 (X c) (wcol (W c) (yg 0))) >>= kk) Q := by
  rw [k0_part4_eq_skeleton]
  unfold k0_part4_skel
  simp -zeta only [onBufs, Prog.lift, Prog.bind_op, Prog.bind_ret, Prog.pure_eq_ret, semSignalWord, semWaitWord]
  refine st_storeY (by decide) (by decide) rfl rfl ?_
  refine st_row (by decide) (by decide) rfl rfl ?_
  iterate 2 (refine st_loadWy rfl (st_row (by decide) (by decide) rfl rfl (st_row (by decide) (by decide) rfl rfl ?_)))
  refine st_loadWy rfl ?_
  exact h

/-- The first eight blocks done, the meeting over, and two copies off. -/
theorem part5 {v19 v20 : BitVec 32} {kk : FVec F S64x64 .bf16 → Prog (TpuEff nD τ sig (Elt F) Λ₀ .tc) PUnit}
    (h : St X W K c 10 1 9 2 0 0 0 0 0 0 0 0 ⊢ wpc c (kk (k0_pay18 (k0_pay1 (X c)) (wcol (W c) (yg 8)))) Q) :
    St X W K c 10 0 6 0 0 0 0 0 0 0 0 0 ⊢ wpc c (onBufs (k0_part5 (F := F)) c v19 v20 barA (k0_pay1 (X c)) (k0_pay12 (wcol (W c) (yg 6))) >>= kk) Q := by
  rw [k0_part5_eq_skeleton]
  unfold k0_part5_skel
  simp -zeta only [onBufs, Prog.lift, Prog.bind_op, Prog.bind_ret, Prog.pure_eq_ret, semSignalWord, semWaitWord]
  iterate 2 (refine st_row (by decide) (by decide) rfl rfl ?_)
  refine st_bar (by decide) ?_
  refine guard (cond1_iff c) (fun h hn k hs => st_send1 (by decide) (by decide) (ne_comm.mp hn) (Fin.ext (dev11_eq c)) rfl (k0_off2_eq c) (semAt _ _ rfl) (semAt _ _ (k0_off1_eq c)) hs) (fun h => st_skip1 (by decide) (fun h' => h (ne_comm.mp h'))) ?_
  refine guard (cond2_iff c) (fun h hn k hs => st_send1 (by decide) (by decide) (ne_comm.mp hn) (Fin.ext (dev12_eq c)) rfl (k0_off4_eq c) (semAt _ _ rfl) (semAt _ _ (k0_off3_eq c)) hs) (fun h => st_skip1 (by decide) (fun h' => h (ne_comm.mp h'))) ?_
  simp -zeta only [Prog.bind_op, Prog.bind_ret]
  refine st_loadWy rfl ?_
  refine st_row (by decide) (by decide) rfl rfl ?_
  exact h

/-- Five blocks stored. -/
theorem part6 {kk : FVec F S64x128 .bf16 → Prog (TpuEff nD τ sig (Elt F) Λ₀ .tc) PUnit}
    (h : St X W K c 10 1 14 2 0 0 0 0 0 0 0 0 ⊢ wpc c (kk (k0_pay26 (k0_pay1 (X c)) (wcol (W c) (yg 14)))) Q) :
    St X W K c 10 1 9 2 0 0 0 0 0 0 0 0 ⊢ wpc c (onBufs (k0_part6 (F := F)) (k0_pay1 (X c)) (k0_pay18 (k0_pay1 (X c)) (wcol (W c) (yg 8))) >>= kk) Q := by
  rw [k0_part6_eq_skeleton]
  unfold k0_part6_skel
  simp -zeta only [onBufs, Prog.lift, Prog.bind_op, Prog.bind_ret, Prog.pure_eq_ret, semSignalWord, semWaitWord]
  refine st_row (by decide) (by decide) rfl rfl ?_
  iterate 2 (refine st_loadWy rfl (st_row (by decide) (by decide) rfl rfl (st_row (by decide) (by decide) rfl rfl ?_)))
  refine st_loadWy rfl ?_
  exact h

/-- Sixteen blocks done, and two copies off. -/
theorem part7 {v19 v20 : BitVec 32} {kk : FVec F S1x64x64 .bf16 → Prog (TpuEff nD τ sig (Elt F) Λ₀ .tc) PUnit}
    (h : St X W K c 10 1 17 4 0 0 0 0 0 0 0 0 ⊢ wpc c (kk (k0_pay31 (k0_pay1 (X c)) (wcol (W c) (yg 16)))) Q) :
    St X W K c 10 1 14 2 0 0 0 0 0 0 0 0 ⊢ wpc c (onBufs (k0_part7 (F := F)) c v19 v20 (k0_pay1 (X c)) (k0_pay26 (k0_pay1 (X c)) (wcol (W c) (yg 14))) >>= kk) Q := by
  rw [k0_part7_eq_skeleton]
  unfold k0_part7_skel
  simp -zeta only [onBufs, Prog.lift, Prog.bind_op, Prog.bind_ret, Prog.pure_eq_ret, semSignalWord, semWaitWord]
  iterate 2 (refine st_row (by decide) (by decide) rfl rfl ?_)
  refine guard (cond3_iff c) (fun h hn k hs => st_send1 (by decide) (by decide) (ne_comm.mp hn) (Fin.ext (dev13_eq c)) rfl (k0_off6_eq c) (semAt _ _ rfl) (semAt _ _ (k0_off5_eq c)) hs) (fun h => st_skip1 (by decide) (fun h' => h (ne_comm.mp h'))) ?_
  refine guard (cond4_iff c) (fun h hn k hs => st_send1 (by decide) (by decide) (ne_comm.mp hn) (Fin.ext (dev14_eq c)) rfl (k0_off8_eq c) (semAt _ _ rfl) (semAt _ _ (k0_off7_eq c)) hs) (fun h => st_skip1 (by decide) (fun h' => h (ne_comm.mp h'))) ?_
  simp -zeta only [Prog.bind_op, Prog.bind_ret]
  refine st_loadWy rfl ?_
  refine st_row (by decide) (by decide) rfl rfl ?_
  refine st_deadY (by decide) (by decide) rfl ?_
  exact h

/-- Five blocks stored. -/
theorem part8 {kk : (Σ' (v239 : FVec F S64x128 .bf16), FVec F S64x64 .bf16) → Prog (TpuEff nD τ sig (Elt F) Λ₀ .tc) PUnit}
    (h : St X W K c 10 1 22 4 0 0 0 0 0 0 0 0 ⊢ wpc c (kk ⟨k0_pay38 (k0_pay1 (X c)) (wcol (W c) (yg 22)), k0_pay39 (k0_pay1 (X c)) (wcol (W c) (yg 22))⟩) Q) :
    St X W K c 10 1 17 4 0 0 0 0 0 0 0 0 ⊢ wpc c (onBufs (k0_part8 (F := F)) (k0_pay1 (X c)) (k0_pay31 (k0_pay1 (X c)) (wcol (W c) (yg 16))) >>= kk) Q := by
  rw [k0_part8_eq_skeleton]
  unfold k0_part8_skel
  simp -zeta only [onBufs, Prog.lift, Prog.bind_op, Prog.bind_ret, Prog.pure_eq_ret, semSignalWord, semWaitWord]
  refine st_storeY (by decide) (by decide) rfl rfl ?_
  iterate 2 (refine st_loadWy rfl (st_row (by decide) (by decide) rfl rfl (st_row (by decide) (by decide) rfl rfl ?_)))
  refine st_loadWy rfl ?_
  refine st_deadY (by decide) (by decide) rfl ?_
  exact h

/-- Twenty-four blocks done, and two copies off. -/
theorem part9 {v19 v20 : BitVec 32} {kk : (Σ' (v271 : FVec F S2048x128 .bf16), FVec F S64x128 .f32) → Prog (TpuEff nD τ sig (Elt F) Λ₀ .tc) PUnit}
    (h : St X W K c 10 1 26 6 0 0 0 0 0 0 0 0 ⊢ wpc c (kk ⟨k0_pay45 (wcol (W c) (yg 26)), constant S64x128 .f32 0x00000000#32⟩) Q) :
    St X W K c 10 1 22 4 0 0 0 0 0 0 0 0 ⊢ wpc c (onBufs (k0_part9 (F := F)) c v19 v20 (k0_pay1 (X c)) (k0_pay38 (k0_pay1 (X c)) (wcol (W c) (yg 22))) (k0_pay39 (k0_pay1 (X c)) (wcol (W c) (yg 22))) >>= kk) Q := by
  rw [k0_part9_eq_skeleton]
  unfold k0_part9_skel
  simp -zeta only [onBufs, Prog.lift, Prog.bind_op, Prog.bind_ret, Prog.pure_eq_ret, semSignalWord, semWaitWord]
  refine st_storeY (by decide) (by decide) rfl rfl ?_
  refine st_row (by decide) (by decide) rfl rfl ?_
  refine guard (cond5_iff c) (fun h hn k hs => st_send1 (by decide) (by decide) (ne_comm.mp hn) (Fin.ext (dev15_eq c)) rfl (k0_off10_eq c) (semAt _ _ rfl) (semAt _ _ (k0_off9_eq c)) hs) (fun h => st_skip1 (by decide) (fun h' => h (ne_comm.mp h'))) ?_
  refine guard (cond6_iff c) (fun h hn k hs => st_send1 (by decide) (by decide) (ne_comm.mp hn) (Fin.ext (dev16_eq c)) rfl (k0_off12_eq c) (semAt _ _ rfl) (semAt _ _ (k0_off11_eq c)) hs) (fun h => st_skip1 (by decide) (fun h' => h (ne_comm.mp h'))) ?_
  simp -zeta only [Prog.bind_op, Prog.bind_ret]
  (refine st_loadWy rfl (st_row (by decide) (by decide) rfl rfl (st_row (by decide) (by decide) rfl rfl ?_)))
  refine st_loadWy rfl ?_
  exact h

/-- Five blocks stored. -/
theorem part10 {kk : FVec F S64x64 .bf16 → Prog (TpuEff nD τ sig (Elt F) Λ₀ .tc) PUnit}
    (h : St X W K c 10 1 31 6 0 0 0 0 0 0 0 0 ⊢ wpc c (kk (k0_pay54 (k0_pay1 (X c)) (wcol (W c) (yg 30)))) Q) :
    St X W K c 10 1 26 6 0 0 0 0 0 0 0 0 ⊢ wpc c (onBufs (k0_part10 (F := F)) (k0_pay1 (X c)) (k0_pay45 (wcol (W c) (yg 26))) (constant S64x128 .f32 0x00000000#32) >>= kk) Q := by
  rw [k0_part10_eq_skeleton]
  unfold k0_part10_skel
  simp -zeta only [onBufs, Prog.lift, Prog.bind_op, Prog.bind_ret, Prog.pure_eq_ret, semSignalWord, semWaitWord]
  iterate 2 (refine st_row (by decide) (by decide) rfl rfl ?_)
  iterate 1 (refine st_loadWy rfl (st_row (by decide) (by decide) rfl rfl (st_row (by decide) (by decide) rfl rfl ?_)))
  refine st_loadWy rfl ?_
  refine st_row (by decide) (by decide) rfl rfl ?_
  exact h

/-- The last block, the last two copies along the row, and two rows of its own. -/
theorem part11 {v19 v20 : BitVec 32} {kk : PUnit → Prog (TpuEff nD τ sig (Elt F) Λ₀ .tc) PUnit}
    (h : St X W K c 10 1 32 8 2 0 0 0 0 0 0 0 ⊢ wpc c (kk ⟨⟩) Q) :
    St X W K c 10 1 31 6 0 0 0 0 0 0 0 0 ⊢ wpc c (onBufs (k0_part11 (F := F)) c v19 v20 (k0_pay54 (k0_pay1 (X c)) (wcol (W c) (yg 30))) >>= kk) Q := by
  rw [k0_part11_eq_skeleton]
  unfold k0_part11_skel
  simp -zeta only [onBufs, Prog.lift, Prog.bind_op, Prog.bind_ret, Prog.pure_eq_ret, semSignalWord, semWaitWord]
  refine st_row (by decide) (by decide) rfl rfl ?_
  refine guard (cond7_iff c) (fun h hn k hs => st_send1 (by decide) (by decide) (ne_comm.mp hn) (Fin.ext (dev17_eq c)) rfl (k0_off14_eq c) (semAt _ _ rfl) (semAt _ _ (k0_off13_eq c)) hs) (fun h => st_skip1 (by decide) (fun h' => h (ne_comm.mp h'))) ?_
  refine guard (cond8_iff c) (fun h hn k hs => st_send1 (by decide) (by decide) (ne_comm.mp hn) (Fin.ext (dev18_eq c)) rfl (k0_off16_eq c) (semAt _ _ rfl) (semAt _ _ (k0_off15_eq c)) hs) (fun h => st_skip1 (by decide) (fun h' => h (ne_comm.mp h'))) ?_
  simp -zeta only [Prog.bind_op, Prog.bind_ret]
  refine st_loadOwn (by decide) (k0_off17_eq c 0) (st_deadSt (by decide) (k0_off18_eq c) (st_storeSt (by decide) (k0_off17_eq c 0) (k0_off18_eq c) rfl ?_))
  refine st_loadOwn (by decide) (k0_off17_eq c 1) (st_deadSt (by decide) (k0_off19_eq c) (st_storeSt (by decide) (k0_off17_eq c 1) (k0_off19_eq c) rfl ?_))
  exact h

end Cert.KernelIdeal.Rsf

end
-- ==== Proof.PartsB.lean ====
module

public import proofs.«01_k».proof.Proof.PartsA

/-! # The kernel's body: the arrivals, the stacking, the copies along the column, and the end -/

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]
local notation "𝕄" => MT nD τ sig Unit (Elt F) ℕ UU ℕ

attribute [local irreducible] pword qword Scalar.cmpi k0_cond17 k0_cond18 k0_cond19 k0_cond20 k0_cond25 k0_cond26 k0_cond27 k0_cond28 k0_cond29 k0_cond30 k0_cond31 k0_cond32 k0_cond33 k0_cond34 k0_cond35 k0_cond36

variable {X : Dev nD → Vec F S64x2048 .bf16} {W : Dev nD → Vec F S2048x2048 .bf16} {K : Dev nD × Ro → ℕ} {c : Dev nD}
variable {Q : PUnit → sProp (MT nD τ sig Unit (Elt F) ℕ UU ℕ)}

/-- The word a wait for place or row `n` is guarded by, at a device whose own is `w`. -/
abbrev gword (w : BitVec 32) (n : ℕ) : BitVec 1 := Scalar.cmpi .ne (Scalar.extui (Scalar.cmpi .ne w (BitVec.ofNat 32 n)) : BitVec 32) 0#32

/-- Its last two own rows, and the first two arrivals. -/
theorem part12 {v2 : BitVec 32} {kk : BitVec 1 → Prog (TpuEff nD τ sig (Elt F) Λ₀ .tc) PUnit}
    (h : St X W K c 10 1 32 8 4 2 0 0 0 0 0 0 ⊢ wpc c (kk (gword (qword c) 2)) Q) :
    St X W K c 10 1 32 8 2 0 0 0 0 0 0 0 ⊢ wpc c (onBufs (k0_part12 (F := F)) c v2 (qword c) >>= kk) Q := by
  rw [k0_part12_eq_skeleton]
  unfold k0_part12_skel
  simp -zeta only [onBufs, Prog.lift, Prog.bind_op, Prog.bind_ret, Prog.pure_eq_ret, semSignalWord, semWaitWord]
  refine st_loadOwn (by decide) (k0_off17_eq c 2) (st_deadSt (by decide) (k0_off20_eq c) (st_storeSt (by decide) (k0_off17_eq c 2) (k0_off20_eq c) rfl ?_))
  refine st_loadOwn (by decide) (k0_off17_eq c 3) (st_deadSt (by decide) (k0_off21_eq c) (st_storeSt (by decide) (k0_off17_eq c 3) (k0_off21_eq c) rfl ?_))
  refine g_wait1 (by decide) (qguard_iff c 0) (fun _ => semAt _ _ rfl) (by intro _; rfl) ?_
  refine g_wait1 (by decide) (qguard_iff c 1) (fun _ => semAt _ _ rfl) (by intro _; rfl) ?_
  simp -zeta only [Prog.bind_op, Prog.bind_ret]
  exact h

/-- The other arrivals along the row, and the first move of the stacking. -/
theorem part13 {v2 : BitVec 32} {kk : PUnit → Prog (TpuEff nD τ sig (Elt F) Λ₀ .tc) PUnit}
    (h : St X W K c 10 1 32 8 4 8 1 0 0 0 0 0 ⊢ wpc c (kk ⟨⟩) Q) :
    St X W K c 10 1 32 8 4 2 0 0 0 0 0 0 ⊢ wpc c (onBufs (k0_part13 (F := F)) v2 (qword c) (gword (qword c) 2) >>= kk) Q := by
  rw [k0_part13_eq_skeleton]
  unfold k0_part13_skel
  simp -zeta only [onBufs, Prog.lift, Prog.bind_op, Prog.bind_ret, Prog.pure_eq_ret, semSignalWord, semWaitWord]
  refine g_wait1 (by decide) (qguard_iff c 2) (fun _ => semAt _ _ rfl) (by intro _; rfl) ?_
  refine g_wait1 (by decide) (qguard_iff c 3) (fun _ => semAt _ _ rfl) (by intro _; rfl) ?_
  refine g_wait1 (by decide) (qguard_iff c 4) (fun _ => semAt _ _ rfl) (by intro _; rfl) ?_
  refine g_wait1 (by decide) (qguard_iff c 5) (fun _ => semAt _ _ rfl) (by intro _; rfl) ?_
  refine g_wait1 (by decide) (qguard_iff c 6) (fun _ => semAt _ _ rfl) (by intro _; rfl) ?_
  refine g_wait1 (by decide) (qguard_iff c 7) (fun _ => semAt _ _ rfl) (by intro _; rfl) ?_
  simp -zeta only [Prog.bind_op, Prog.bind_ret]
  refine st_move (by decide) rfl rfl (fun _ => rfl) ?_
  exact h

/-- Four moves, and the next block read. -/
theorem part14 {kk : FVec F S64x64 .bf16 → Prog (TpuEff nD τ sig (Elt F) Λ₀ .tc) PUnit}
    (h : St X W K c 10 1 32 8 4 8 5 0 0 0 0 0 ⊢ wpc c (kk (k0_pay65 (slotVal X W c 5))) Q) :
    St X W K c 10 1 32 8 4 8 1 0 0 0 0 0 ⊢ wpc c (onBufs (k0_part14 (F := F))  >>= kk) Q := by
  rw [k0_part14_eq_skeleton]
  unfold k0_part14_skel
  simp -zeta only [onBufs, Prog.lift, Prog.bind_op, Prog.bind_ret, Prog.pure_eq_ret, semSignalWord, semWaitWord]
  iterate 4 (refine st_move (by decide) rfl rfl (fun _ => rfl) ?_)
  refine st_readSlot rfl ?_
  exact h

/-- Five moves. -/
theorem part15 {kk : PUnit → Prog (TpuEff nD τ sig (Elt F) Λ₀ .tc) PUnit}
    (h : St X W K c 10 1 32 8 4 8 10 0 0 0 0 0 ⊢ wpc c (kk ⟨⟩) Q) :
    St X W K c 10 1 32 8 4 8 5 0 0 0 0 0 ⊢ wpc c (onBufs (k0_part15 (F := F)) (k0_pay65 (slotVal X W c 5)) >>= kk) Q := by
  rw [k0_part15_eq_skeleton]
  unfold k0_part15_skel
  simp -zeta only [onBufs, Prog.lift, Prog.bind_op, Prog.bind_ret, Prog.pure_eq_ret, semSignalWord, semWaitWord]
  refine st_deadS2 (by decide) rfl ?_
  refine st_stack (by decide) rfl rfl ?_
  iterate 4 (refine st_move (by decide) rfl rfl (fun _ => rfl) ?_)
  exact h

/-- Four moves, and the next block read. -/
theorem part16 {kk : FVec F S1x64x64 .bf16 → Prog (TpuEff nD τ sig (Elt F) Λ₀ .tc) PUnit}
    (h : St X W K c 10 1 32 8 4 8 14 0 0 0 0 0 ⊢ wpc c (kk (k0_pay75 (slotVal X W c 14))) Q) :
    St X W K c 10 1 32 8 4 8 10 0 0 0 0 0 ⊢ wpc c (onBufs (k0_part16 (F := F))  >>= kk) Q := by
  rw [k0_part16_eq_skeleton]
  unfold k0_part16_skel
  simp -zeta only [onBufs, Prog.lift, Prog.bind_op, Prog.bind_ret, Prog.pure_eq_ret, semSignalWord, semWaitWord]
  iterate 4 (refine st_move (by decide) rfl rfl (fun _ => rfl) ?_)
  refine st_readSlot rfl ?_
  refine st_deadS2 (by decide) rfl ?_
  exact h

/-- Five moves, and the next block read. -/
theorem part17 {kk : FVec F S64x64 .bf16 → Prog (TpuEff nD τ sig (Elt F) Λ₀ .tc) PUnit}
    (h : St X W K c 10 1 32 8 4 8 19 0 0 0 0 0 ⊢ wpc c (kk (k0_pay80 (slotVal X W c 19))) Q) :
    St X W K c 10 1 32 8 4 8 14 0 0 0 0 0 ⊢ wpc c (onBufs (k0_part17 (F := F)) (k0_pay75 (slotVal X W c 14)) >>= kk) Q := by
  rw [k0_part17_eq_skeleton]
  unfold k0_part17_skel
  simp -zeta only [onBufs, Prog.lift, Prog.bind_op, Prog.bind_ret, Prog.pure_eq_ret, semSignalWord, semWaitWord]
  refine st_stack (by decide) rfl rfl ?_
  iterate 4 (refine st_move (by decide) rfl rfl (fun _ => rfl) ?_)
  refine st_readSlot rfl ?_
  exact h

/-- Five moves. -/
theorem part18 {kk : PUnit → Prog (TpuEff nD τ sig (Elt F) Λ₀ .tc) PUnit}
    (h : St X W K c 10 1 32 8 4 8 24 0 0 0 0 0 ⊢ wpc c (kk ⟨⟩) Q) :
    St X W K c 10 1 32 8 4 8 19 0 0 0 0 0 ⊢ wpc c (onBufs (k0_part18 (F := F)) (k0_pay80 (slotVal X W c 19)) >>= kk) Q := by
  rw [k0_part18_eq_skeleton]
  unfold k0_part18_skel
  simp -zeta only [onBufs, Prog.lift, Prog.bind_op, Prog.bind_ret, Prog.pure_eq_ret, semSignalWord, semWaitWord]
  refine st_deadS2 (by decide) rfl ?_
  refine st_stack (by decide) rfl rfl ?_
  iterate 4 (refine st_move (by decide) rfl rfl (fun _ => rfl) ?_)
  exact h

/-- Four moves, and the next block read. -/
theorem part19 {kk : (Σ' (v517 : FVec F S64x64 .bf16), Vec F S1x64x64 .bf16) → Prog (TpuEff nD τ sig (Elt F) Λ₀ .tc) PUnit}
    (h : ∀ v, St X W K c 10 1 32 8 4 8 28 0 0 0 0 0 ⊢ wpc c (kk ⟨k0_pay90 (slotVal X W c 28), v⟩) Q) :
    St X W K c 10 1 32 8 4 8 24 0 0 0 0 0 ⊢ wpc c (onBufs (k0_part19 (F := F))  >>= kk) Q := by
  rw [k0_part19_eq_skeleton]
  unfold k0_part19_skel
  simp -zeta only [onBufs, Prog.lift, Prog.bind_op, Prog.bind_ret, Prog.pure_eq_ret, semSignalWord, semWaitWord]
  iterate 4 (refine st_move (by decide) rfl rfl (fun _ => rfl) ?_)
  refine st_readSlot rfl ?_
  refine st_looseS2 (by decide) rfl fun v => ?_
  exact h v

/-- The last moves, and the first copy along the column. -/
theorem part20 {v19 v20 : BitVec 32} {v : Vec F S1x64x64 .bf16} {kk : (Σ' (v542 : BitVec 32), BitVec 1) → Prog (TpuEff nD τ sig (Elt F) Λ₀ .tc) PUnit}
    (h : ∀ v542 v543, St X W K c 10 1 32 8 4 8 32 1 0 0 0 0 ⊢ wpc c (kk ⟨v542, v543⟩) Q) :
    St X W K c 10 1 32 8 4 8 28 0 0 0 0 0 ⊢ wpc c (onBufs (k0_part20 (F := F)) c v19 v20 (k0_pay90 (slotVal X W c 28)) v >>= kk) Q := by
  rw [k0_part20_eq_skeleton]
  unfold k0_part20_skel
  simp -zeta only [onBufs, Prog.lift, Prog.bind_op, Prog.bind_ret, Prog.pure_eq_ret, semSignalWord, semWaitWord]
  refine st_stack (by decide) rfl rfl ?_
  iterate 3 (refine st_move (by decide) rfl rfl (fun _ => rfl) ?_)
  refine guard (cond17_iff c) (fun h hn k hs => st_send2 (by decide) (ne_comm.mp hn) (Fin.ext (dev19_eq c)) rfl (off23_eq c) (semAt _ _ rfl) (semAt _ _ (off22_eq c)) hs) (fun h => st_skip2 (by decide) (fun h' => h (ne_comm.mp h'))) ?_
  simp -zeta only [Prog.bind_op, Prog.bind_ret]
  exact h _ _

/-- The other copies along the column, its own rows of the result, and the first two arrivals. -/
theorem part21 {v2 v20 v542 : BitVec 32} {v543 : BitVec 1} {kk : BitVec 32 → Prog (TpuEff nD τ sig (Elt F) Λ₀ .tc) PUnit}
    (h : St X W K c 10 1 32 8 4 8 32 4 1 2 0 0 ⊢ wpc c (kk 2#32) Q) :
    St X W K c 10 1 32 8 4 8 32 1 0 0 0 0 ⊢ wpc c (onBufs (k0_part21 (F := F)) c v2 (pword c) v20 v542 v543 >>= kk) Q := by
  rw [k0_part21_eq_skeleton]
  unfold k0_part21_skel
  simp -zeta only [onBufs, Prog.lift, Prog.bind_op, Prog.bind_ret, Prog.pure_eq_ret, semSignalWord, semWaitWord]
  refine guard (cond18_iff c) (fun h hn k hs => st_send2 (by decide) (ne_comm.mp hn) (Fin.ext (dev20_eq c)) rfl (off25_eq c) (semAt _ _ rfl) (semAt _ _ (off24_eq c)) hs) (fun h => st_skip2 (by decide) (fun h' => h (ne_comm.mp h'))) ?_
  refine guard (cond19_iff c) (fun h hn k hs => st_send2 (by decide) (ne_comm.mp hn) (Fin.ext (dev21_eq c)) rfl (off27_eq c) (semAt _ _ rfl) (semAt _ _ (off26_eq c)) hs) (fun h => st_skip2 (by decide) (fun h' => h (ne_comm.mp h'))) ?_
  refine guard (cond20_iff c) (fun h hn k hs => st_send2 (by decide) (ne_comm.mp hn) (Fin.ext (dev22_eq c)) rfl (off29_eq c) (semAt _ _ rfl) (semAt _ _ (off28_eq c)) hs) (fun h => st_skip2 (by decide) (fun h' => h (ne_comm.mp h'))) ?_
  simp -zeta only [Prog.bind_op, Prog.bind_ret]
  refine st_loadSlab (off30_eq c) (st_deadO (off31_eq c) (st_storeO (off30_eq c) (off31_eq c) rfl ?_))
  refine g_wait2 (by decide) (pguard_iff c 0) (fun _ => semAt _ _ rfl) (by intro _; rfl) ?_
  refine g_wait2 (by decide) (pguard_iff c 1) (fun _ => semAt _ _ rfl) (by intro _; rfl) ?_
  simp -zeta only [Prog.bind_op, Prog.bind_ret]
  exact h

/-- The last arrivals, and six copies along the row done. -/
theorem part22 {v2 v20 : BitVec 32} {kk : BitVec 32 → Prog (TpuEff nD τ sig (Elt F) Λ₀ .tc) PUnit}
    (h : St X W K c 10 1 32 8 4 8 32 4 1 4 6 0 ⊢ wpc c (kk 6#32) Q) :
    St X W K c 10 1 32 8 4 8 32 4 1 2 0 0 ⊢ wpc c (onBufs (k0_part22 (F := F)) c v2 (pword c) v20 2#32 >>= kk) Q := by
  rw [k0_part22_eq_skeleton]
  unfold k0_part22_skel
  simp -zeta only [onBufs, Prog.lift, Prog.bind_op, Prog.bind_ret, Prog.pure_eq_ret, semSignalWord, semWaitWord]
  refine g_wait2 (by decide) (pguard_iff c 2) (fun _ => semAt _ _ rfl) (by intro _; rfl) ?_
  refine g_wait2 (by decide) (pguard_iff c 3) (fun _ => semAt _ _ rfl) (by intro _; rfl) ?_
  refine g_done1 (by decide) (cond25_iff c) (fun _ => semAt _ _ rfl) (by intro _; rfl) ?_
  refine g_done1 (by decide) (cond26_iff c) (fun _ => semAt _ _ rfl) (by intro _; rfl) ?_
  refine g_done1 (by decide) (cond27_iff c) (fun _ => semAt _ _ rfl) (by intro _; rfl) ?_
  refine g_done1 (by decide) (cond28_iff c) (fun _ => semAt _ _ rfl) (by intro _; rfl) ?_
  refine g_done1 (by decide) (cond29_iff c) (fun _ => semAt _ _ rfl) (by intro _; rfl) ?_
  refine g_done1 (by decide) (cond30_iff c) (fun _ => semAt _ _ rfl) (by intro _; rfl) ?_
  simp -zeta only [Prog.bind_op, Prog.bind_ret]
  exact h

/-- The parts in turn, and all but the last wait. -/
theorem part23 {kk : (Σ' (d0 : Dev nD) (v19 : BitVec 32), BitVec 32) → Prog (TpuEff nD τ sig (Elt F) Λ₀ .tc) PUnit}
    (h : ∀ v, St X W K c 10 1 32 8 4 8 32 4 1 4 8 3 ⊢ wpc c (kk ⟨c, v, 3#32⟩) Q) :
    St X W K c 0 0 0 0 0 0 0 0 0 0 0 0 ⊢ wpc c (onBufs (k0_part23 (F := F)) >>= kk) Q := by
  rw [k0_part23_eq_skeleton]
  unfold k0_part23_skel
  simp -zeta only [onBufs, Prog.bind_assoc]
  refine part1 (F := F) fun v2 v19 v20 h19 h20 => ?_
  subst h19 h20
  refine part2 (F := F) fun v61 v62 => part3 (part4 (part5 (part6 (part7 (part8 (part9 (part10 (part11 (part12 (part13 ?_))))))))))
  refine part14 (F := F) (part15 (part16 (part17 (part18 (part19 fun v => part20 fun v542 v543 => part21 (part22 ?_))))))
  simp -zeta only [Prog.lift, Prog.bind_op, Prog.bind_ret, Prog.pure_eq_ret]
  refine g_done1 (by decide) (cond31_iff c) (fun _ => semAt _ _ rfl) (by intro _; rfl) ?_
  refine g_done1 (by decide) (cond32_iff c) (fun _ => semAt _ _ rfl) (by intro _; rfl) ?_
  refine g_done2 (by decide) (cond33_iff c) (fun _ => semAt _ _ rfl) (by intro _; rfl) ?_
  refine g_done2 (by decide) (cond34_iff c) (fun _ => semAt _ _ rfl) (by intro _; rfl) ?_
  refine g_done2 (by decide) (cond35_iff c) (fun _ => semAt _ _ rfl) (by intro _; rfl) ?_
  exact h _

/-- The whole body, from a device's start to its end. -/
theorem body_run {kk : PUnit → Prog (TpuEff nD τ sig (Elt F) Λ₀ .tc) PUnit} (h : St X W K c 10 1 32 8 4 8 32 4 1 4 8 4 ⊢ wpc c (kk ⟨⟩) Q) :
    St X W K c 0 0 0 0 0 0 0 0 0 0 0 0 ⊢ wpc c (onBufs (cc0_body (F := F)) >>= kk) Q := by
  rw [cc0_body_eq_skeleton]
  unfold cc0_body_skel
  simp -zeta only [onBufs, Prog.bind_assoc]
  refine part23 (F := F) fun v => ?_
  simp -zeta only [Prog.lift, Prog.bind_op, Prog.bind_ret, Prog.pure_eq_ret]
  refine g_done2 (by decide) (cond36_iff c) (fun _ => semAt _ _ rfl) (by intro _; rfl) ?_
  exact h

end Cert.KernelIdeal.Rsf

end
-- ==== Proof.Ends.lean ====
/- The two ends of a device's run: what the launch gives it is what its body starts from, and what its body ends with is its
   buffers whole, its result, and every semaphore of its own at zero. -/
module

public import proofs.«01_k».proof.Proof.Moves

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

set_option backward.proofsInPublic true

variable {F : FTy → Type} [FloatOps F]

local notation "𝕄" => MT nD τ sig Unit (Elt F) ℕ UU ℕ

variable (X : Dev nD → Vec F S64x2048 .bf16) (W : Dev nD → Vec F S2048x2048 .bf16) (K : Dev nD × Ro → ℕ) (c : Dev nD)

omit [FloatOps F] in
theorem each {I : Type} {s : Finset I} {Φ Ψ : I → sProp 𝕄} (h : ∀ i ∈ s, Φ i ⊢ Ψ i) : bigSep s Φ ⊢ bigSep s Ψ := bigSep_mono h

/-! ## Cutting whole buffers, and joining them -/

theorem cut {ℓ : Loc nD τ sig} {n : ℕ} {I : Finset (Idx ℓ)} {J : Fin n → Finset (Idx ℓ)}
    (hI : ∀ i, i ∈ I ↔ ∃ a, i ∈ J a) (hd : ∀ a a', a ≠ a' → Disjoint (J a) (J a')) :
    iprop(∃ f, ℓ ↦[I]{fullShare} f) ⊢ (bigSep Finset.univ fun a => iprop(∃ f, ℓ ↦[J a]{fullShare} f) : sProp 𝕄) := by
  iintro ⟨%f, H⟩
  ihave H := (Entails.of_eq (pieces hI hd)) $$ H
  iapply (each (s := Finset.univ) (Φ := fun a => ℓ ↦[J a]{fullShare} f) fun a _ => by iintro H; iexists f; iexact H)
  iexact H

theorem mem_of_eq {α : Type} [DecidableEq α] {n : ℕ} {I : Finset α} {J : Fin n → Finset α} (h : I = Finset.univ.biUnion J) (i : α) :
    i ∈ I ↔ ∃ a, i ∈ J a := by
  rw [h]
  exact Finset.mem_biUnion.trans ⟨fun ⟨a, _, h⟩ => ⟨a, h⟩, fun ⟨a, h⟩ => ⟨a, Finset.mem_univ _, h⟩⟩

theorem y_slabs : iprop(∃ f, yPt c Finset.univ f) ⊢ (bigSep Finset.univ fun q => iprop(∃ f, yPt c (ySlab q) f) : sProp 𝕄) := by
  unfold yPt; exact cut (ℓ := yM.view.loc (c : Thread nD τ)) (I := Finset.univ) (J := ySlab) (mem_of_eq y_cover.symm) ySlab_disj
theorem y_rows (q : Fin 8) : iprop(∃ f, yPt c (ySlab q) f) ⊢ (bigSep Finset.univ fun a => iprop(∃ f, yPt c (yRow q a) f) : sProp 𝕄) := by
  unfold yPt; exact cut (ℓ := yM.view.loc (c : Thread nD τ)) (I := ySlab q) (J := yRow q) (mem_of_eq (ySlab_eq q)) (yRow_disj q)
theorem st_slots : iprop(∃ f, stPt c Finset.univ f) ⊢ (bigSep Finset.univ fun q => iprop(∃ f, stPt c (stSlot q) f) : sProp 𝕄) := by
  unfold stPt; exact cut (ℓ := stM.view.loc (c : Thread nD τ)) (I := Finset.univ) (J := stSlot) (mem_of_eq st_cover.symm) stSlot_disj
theorem st_rows (q : Fin 8) : iprop(∃ f, stPt c (stSlot q) f) ⊢ (bigSep Finset.univ fun a => iprop(∃ f, stPt c (stRow q a) f) : sProp 𝕄) := by
  unfold stPt; exact cut (ℓ := stM.view.loc (c : Thread nD τ)) (I := stSlot q) (J := stRow q) (mem_of_eq (stSlot_eq q)) (stRow_disj q)
theorem s2_slabs : iprop(∃ f, s2Pt c Finset.univ f) ⊢ (bigSep Finset.univ fun p => iprop(∃ f, s2Pt c (s2Slab p) f) : sProp 𝕄) := by
  unfold s2Pt; exact cut (ℓ := s2M.view.loc (c : Thread nD τ)) (I := Finset.univ) (J := s2Slab) (mem_of_eq s2_cover.symm) s2Slab_disj
theorem s2_rows (p : Fin 4) : iprop(∃ f, s2Pt c (s2Slab p) f) ⊢ (bigSep Finset.univ fun q => iprop(∃ f, s2Pt c (s2Row p q) f) : sProp 𝕄) := by
  unfold s2Pt; exact cut (ℓ := s2M.view.loc (c : Thread nD τ)) (I := s2Slab p) (J := s2Row p) (mem_of_eq (s2Slab_eq p)) (s2Row_disj p)
theorem o_blks : iprop(∃ f, oPt c Finset.univ f) ⊢ (bigSep Finset.univ fun p => iprop(∃ f, oPt c (outBlk p) f) : sProp 𝕄) := by
  unfold oPt; exact cut (ℓ := oM.view.loc (c : Thread nD τ)) (I := Finset.univ) (J := outBlk) (mem_of_eq out_cover.symm) outBlk_disj

theorem y_join (f : Vec F S32x64x64 .bf16) : (bigSep Finset.univ fun q => yPt c (ySlab q) f : sProp 𝕄) = yPt c Finset.univ f := by
  unfold yPt; exact (pieces (ℓ := yM.view.loc (c : Thread nD τ)) (I := Finset.univ) (K := ySlab) (mem_of_eq y_cover.symm) ySlab_disj).symm
theorem st_join (f : Vec F S8x4x64x64 .bf16) : (bigSep Finset.univ fun q => stPt c (stSlot q) f : sProp 𝕄) = stPt c Finset.univ f := by
  unfold stPt; exact (pieces (ℓ := stM.view.loc (c : Thread nD τ)) (I := Finset.univ) (K := stSlot) (mem_of_eq st_cover.symm) stSlot_disj).symm
theorem s2_join (f : Vec F S4x512x64 .bf16) : (bigSep Finset.univ fun p => s2Pt c (s2Slab p) f : sProp 𝕄) = s2Pt c Finset.univ f := by
  unfold s2Pt; exact (pieces (ℓ := s2M.view.loc (c : Thread nD τ)) (I := Finset.univ) (K := s2Slab) (mem_of_eq s2_cover.symm) s2Slab_disj).symm
theorem o_join (f : Vec F S2048x64 .bf16) : (bigSep Finset.univ fun p => oPt c (outBlk p) f : sProp 𝕄) = oPt c Finset.univ f := by
  unfold oPt; exact (pieces (ℓ := oM.view.loc (c : Thread nD τ)) (I := Finset.univ) (K := outBlk) (mem_of_eq out_cover.symm) outBlk_disj).symm

/-! ## The start -/

/-- What a device pays, and into which semaphore. -/
abbrev Pay : Type := Fin 10 ⊕ Xi
abbrev tgt (c : Dev nD) : Pay → GSem nD τ sig
  | .inl i => cell (peer c i) rb
  | .inr (.inl q) => cell c (rs1 q)
  | .inr (.inr (.inl q)) => cell (dev (pd c) q) (rr1 (qd c))
  | .inr (.inr (.inr (.inl p))) => cell c (rs2 p)
  | .inr (.inr (.inr (.inr p))) => cell (dev p (qd c)) (rr2 (pd c))

def toks : sProp 𝕄 := bigSep Finset.univ fun y : Pay => dutyTok ER (tgt c y) 0 c
def posn : sProp 𝕄 := bigSep Finset.univ fun r : Ro => atPos ER (cell c r) 0 ∅ 0
def crd : sProp 𝕄 :=
  iprop(cred (tallyAt (cell c rb) () 31)
    ∗ (bigSep Finset.univ fun q : Fin 8 => if q = qd c then iprop(emp) else cred (tallyAt (cell c (rr1 q)) () N1))
    ∗ (bigSep Finset.univ fun p : Fin 4 => if p = pd c then iprop(emp) else cred (tallyAt (cell c (rr2 p)) () N2)))

omit [FloatOps F] in
theorem toks_eq : (toks (F := F) c) = iprop((bigSep Finset.univ fun i : Fin 10 => dutyTok ER (cell (peer c i) rb) 0 c)
    ∗ (bigSep Finset.univ fun q : Fin 8 => dutyTok ER (cell c (rs1 q)) 0 c)
    ∗ (bigSep Finset.univ fun q : Fin 8 => dutyTok ER (cell (dev (pd c) q) (rr1 (qd c))) 0 c)
    ∗ (bigSep Finset.univ fun p : Fin 4 => dutyTok ER (cell c (rs2 p)) 0 c)
    ∗ (bigSep Finset.univ fun p : Fin 4 => dutyTok ER (cell (dev p (qd c)) (rr2 (pd c))) 0 c)) := by
  unfold toks
  rw [bigSep_univ_sum, bigSep_univ_sum, bigSep_univ_sum, bigSep_univ_sum]; rfl

omit [FloatOps F] in
/-- A family over all the semaphores of a device, by kind. -/
theorem ro_eq (Φ : Ro → sProp 𝕄) : bigSep Finset.univ Φ = iprop(Φ rb ∗ (bigSep Finset.univ fun q => Φ (rs1 q))
    ∗ (bigSep Finset.univ fun q => Φ (rr1 q)) ∗ (bigSep Finset.univ fun p => Φ (rs2 p)) ∗ (bigSep Finset.univ fun p => Φ (rr2 p))) := by
  rw [bigSep_univ_sum, bigSep_univ_sum, bigSep_univ_sum, bigSep_univ_sum, bigSep_univ_of_subsingleton ()]; rfl

theorem yS_start : iprop(∃ f, yPt c Finset.univ f) ⊢ yS X W c 0 0 := by
  refine (y_slabs c).trans ?_
  unfold yS
  refine each fun q _ => ?_
  unfold yC
  rw [if_neg (fun h => Nat.not_lt_zero _ h.1)]
  refine (y_rows c q).trans (bigSep_mono fun a _ => ?_)
  unfold yR
  rw [if_neg (Nat.not_lt_zero _)]
  exact .refl _
theorem zS_start : iprop(∃ f, s2Pt c Finset.univ f) ⊢ zS X W c 0 0 := by
  refine (s2_slabs c).trans ?_
  unfold zS
  refine each fun p _ => ?_
  unfold zC
  rw [if_neg (fun h => Nat.not_lt_zero _ h.1)]
  refine (s2_rows c p).trans (bigSep_mono fun a _ => ?_)
  unfold zR
  rw [if_neg (Nat.not_lt_zero _)]
  exact .refl _
theorem gS_start : iprop(∃ f, stPt c (stSlot (qd c)) f) ⊢ gS X W c 0 := by
  refine (st_rows c (qd c)).trans ?_
  unfold gS
  refine each fun a _ => ?_
  unfold gC
  rw [if_neg (Nat.not_lt_zero _)]

/-- Which of its own pieces a device hands to its `i`-th peer: a slot or a row block. -/
def tag (c : Dev nD) (i : Fin 10) : Fin 8 ⊕ Fin 4 := if pd c = pd (peer c i) then .inl (qd (peer c i)) else .inr (pd (peer c i))
def own : Fin 8 ⊕ Fin 4 → sProp 𝕄
  | .inl q => iprop(∃ f, stPt c (stSlot q) f)
  | .inr p => iprop(∃ f, oPt c (outBlk p) f)
theorem hand_tag (i : Fin 10) : hand X W (peer c i) rb c = own (F := F) c (tag c i) := by
  unfold hand tag; dsimp only; split <;> rfl
theorem tag_image (c : Dev nD) : (Finset.univ.erase (Sum.inl (qd c))).erase (Sum.inr (pd c)) = Finset.univ.image (tag c) := by
  revert c; unfold tag; decide +kernel
theorem tag_inj (c : Dev nD) : Function.Injective (tag c) := by
  intro i j; revert i j; revert c; unfold tag; decide +kernel

theorem deal_start :
    iprop((∃ f, stPt c Finset.univ f) ∗ (∃ f, oPt c Finset.univ f) ∗ bigSep Finset.univ fun i : Fin 10 => dutyTok ER (cell (peer c i) rb) 0 c)
      ⊢ iprop(aS X W c 0 ∗ gS X W c 0 ∗ oC X W c 0) := by
  have h : iprop((∃ f, stPt c Finset.univ f) ∗ (∃ f, oPt c Finset.univ f))
      ⊢ iprop(own (F := F) c (.inr (pd c)) ∗ own (F := F) c (.inl (qd c)) ∗ bigSep Finset.univ fun i : Fin 10 => hand X W (peer c i) rb c) := by
    have e : iprop((bigSep Finset.univ fun q => iprop(∃ f, stPt c (stSlot q) f)) ∗ bigSep Finset.univ fun p => iprop(∃ f, oPt c (outBlk p) f))
        = bigSep Finset.univ (own (F := F) c) := (bigSep_univ_sum (own (F := F) c)).symm
    have e' : iprop((∃ f, stPt c Finset.univ f) ∗ (∃ f, oPt c Finset.univ f)) ⊢ bigSep Finset.univ (own (F := F) c) := by
      rw [← e]
      iintro ⟨H1, H2⟩
      isplitl [H1]
      · iapply (st_slots c); iexact H1
      · iapply (o_blks c); iexact H2
    have e2 : bigSep (Finset.univ.erase (Sum.inl (qd c))) (own (F := F) c) = iprop(own (F := F) c (.inr (pd c)) ∗ bigSep ((Finset.univ.erase (Sum.inl (qd c))).erase (Sum.inr (pd c))) (own (F := F) c)) :=
      bigSep_erase (Finset.mem_erase.mpr ⟨Sum.inr_ne_inl, Finset.mem_univ _⟩)
    refine e'.trans ?_
    rw [bigSep_univ_at (own (F := F) c) (.inl (qd c)), e2, tag_image,
      bigSep_image_of_injOn (fun a _ b _ h => tag_inj c h),
      show (bigSep Finset.univ fun i : Fin 10 => hand X W (peer c i) rb c) = bigSep Finset.univ fun i => own (F := F) c (tag c i) from
        bigSep_congr fun i _ => hand_tag X W c i]
    iintro ⟨H1, H2, H3⟩
    isplitl [H2]; · iexact H2
    isplitl [H1]; · iexact H1
    iexact H3
  have h' : iprop((bigSep Finset.univ fun i : Fin 10 => dutyTok ER (cell (peer c i) rb) 0 c) ∗ bigSep Finset.univ fun i : Fin 10 => hand X W (peer c i) rb c)
      ⊢ aS X W c 0 := by
    rw [← bigSep_sep']
    unfold aS
    refine each fun i _ => ?_
    unfold aC
    rw [if_neg (Nat.not_lt_zero _)]
  iintro ⟨H1, H2, Ht⟩
  ihave H := h $$ [H1 H2]
  · isplitl [H1] <;> iassumption
  icases H with ⟨Ho, Hg, Hh⟩
  isplitl [Ht Hh]
  · iapply h'; isplitl [Ht] <;> iassumption
  isplitl [Hg]
  · iapply (gS_start X W c); unfold own; iexact Hg
  · unfold oC own; rw [if_pos rfl]; iexact Ho

theorem s1S_start :
    iprop((bigSep Finset.univ fun q : Fin 8 => atPos ER (cell c (rs1 q)) 0 ∅ 0) ∗ (bigSep Finset.univ fun q : Fin 8 => dutyTok ER (cell c (rs1 q)) 0 c)
      ∗ (bigSep Finset.univ fun q : Fin 8 => dutyTok ER (cell (dev (pd c) q) (rr1 (qd c))) 0 c)) ⊢ s1S X W c 0 0 := by
  rw [← bigSep_sep', ← bigSep_sep']
  unfold s1S
  refine each fun q _ => ?_
  unfold s1C
  split
  · iintro ⟨H, -, -⟩; iexact H
  · rw [if_neg (Nat.not_lt_zero _), if_neg (Nat.not_lt_zero _)]
    iintro ⟨H, H1, H2⟩
    isplitl [H1 H2]
    · isplitl [H1] <;> iassumption
    iexact H
theorem s2S_start :
    iprop((bigSep Finset.univ fun p : Fin 4 => atPos ER (cell c (rs2 p)) 0 ∅ 0) ∗ (bigSep Finset.univ fun p : Fin 4 => dutyTok ER (cell c (rs2 p)) 0 c)
      ∗ (bigSep Finset.univ fun p : Fin 4 => dutyTok ER (cell (dev p (qd c)) (rr2 (pd c))) 0 c)) ⊢ s2S X W c 0 0 := by
  rw [← bigSep_sep', ← bigSep_sep']
  unfold s2S
  refine each fun q _ => ?_
  unfold s2C
  split
  · iintro ⟨H, -, -⟩; iexact H
  · rw [if_neg (Nat.not_lt_zero _), if_neg (Nat.not_lt_zero _)]
    iintro ⟨H, H1, H2⟩
    isplitl [H1 H2]
    · isplitl [H1] <;> iassumption
    iexact H
theorem r1S_start :
    iprop((bigSep Finset.univ fun q : Fin 8 => atPos ER (cell c (rr1 q)) 0 ∅ 0)
      ∗ (bigSep Finset.univ fun q : Fin 8 => if q = qd c then iprop(emp) else cred (tallyAt (cell c (rr1 q)) () N1))) ⊢ r1S X W c 0 := by
  rw [← bigSep_sep']
  unfold r1S
  refine each fun q _ => ?_
  unfold r1C
  split
  · iintro ⟨H, -⟩; iexact H
  · rw [if_neg (Nat.not_lt_zero _)]
    iintro ⟨H, H1⟩
    isplitl [H1] <;> iassumption
theorem r2S_start :
    iprop((bigSep Finset.univ fun p : Fin 4 => atPos ER (cell c (rr2 p)) 0 ∅ 0)
      ∗ (bigSep Finset.univ fun p : Fin 4 => if p = pd c then iprop(emp) else cred (tallyAt (cell c (rr2 p)) () N2))) ⊢ r2S X W c 0 := by
  rw [← bigSep_sep']
  unfold r2S
  refine each fun q _ => ?_
  unfold r2C
  split
  · iintro ⟨H, -⟩; iexact H
  · rw [if_neg (Nat.not_lt_zero _)]
    iintro ⟨H, H1⟩
    isplitl [H1] <;> iassumption
omit [FloatOps F] in
theorem d1S_start : (iprop(emp) : sProp 𝕄) ⊢ d1S (F := F) c 0 0 := by
  unfold d1S
  rw [show (bigSep Finset.univ (d1C (F := F) c 0 0) : sProp 𝕄) = bigSep Finset.univ fun _ => iprop(emp) from
    bigSep_congr fun q _ => by unfold d1C; exact if_pos (.inl rfl)]
  exact Entails.of_eq (bigSep_emp_const _).symm
omit [FloatOps F] in
theorem d2S_start : (iprop(emp) : sProp 𝕄) ⊢ d2S (F := F) c 0 0 := by
  unfold d2S
  rw [show (bigSep Finset.univ (d2C (F := F) c 0 0) : sProp 𝕄) = bigSep Finset.univ fun _ => iprop(emp) from
    bigSep_congr fun q _ => by unfold d2C; exact if_pos (.inl rfl)]
  exact Entails.of_eq (bigSep_emp_const _).symm

/-- What the launch gives a device, and its four buffers whole, is what its body starts from. -/
theorem St_start :
    iprop(recs X W K ∗ ow c (Owed c 0 0 0) ∗ xP X c ∗ wP W c ∗ posn c ∗ toks c ∗ crd c
      ∗ (∃ f, yPt c Finset.univ f) ∗ (∃ f, stPt c Finset.univ f) ∗ (∃ f, s2Pt c Finset.univ f) ∗ (∃ f, oPt c Finset.univ f))
      ⊢ St X W K c 0 0 0 0 0 0 0 0 0 0 0 0 := by
  unfold posn crd
  rw [toks_eq, ro_eq]
  iintro ⟨HR, HO, Hx, Hw, ⟨Pb, Ps1, Pr1, Ps2, Pr2⟩, ⟨Tb, Ts1, Tr1, Ts2, Tr2⟩, ⟨Cb, C1, C2⟩, Hy, Hst, Hs2, Ho⟩
  ihave Hd := (deal_start X W c) $$ [Hst Ho Tb]
  · isplitl [Hst]; · iexact Hst
    isplitl [Ho] <;> iassumption
  icases Hd with ⟨HA, HG, HoC⟩
  unfold St
  iframe HR HO Hx Hw HA
  isplitl [Pb Cb]
  · unfold bC; rw [if_pos rfl]; isplitl [Cb] <;> iassumption
  isplitl [Hy]; · iapply (yS_start X W c); iexact Hy
  isplitl [Ps1 Ts1 Tr1]
  · iapply (s1S_start X W c); isplitl [Ps1]; · iexact Ps1
    isplitl [Ts1] <;> iassumption
  isplitr; · iapply (d1S_start (F := F) c); iempintro
  isplitl [HG]; · iexact HG
  isplitl [Pr1 C1]
  · iapply (r1S_start X W c); isplitl [Pr1] <;> iassumption
  isplitl [Hs2]; · iapply (zS_start X W c); iexact Hs2
  isplitl [Ps2 Ts2 Tr2]
  · iapply (s2S_start X W c); isplitl [Ps2]; · iexact Ps2
    isplitl [Ts2] <;> iassumption
  isplitr; · iapply (d2S_start (F := F) c); iempintro
  isplitl [HoC]; · iexact HoC
  iapply (r2S_start X W c); isplitl [Pr2] <;> iassumption

/-! ## The end -/

theorem r1C_own : r1C X W c 8 (qd c) = atPos ER (cell c (rr1 (qd c))) 0 ∅ 0 := by unfold r1C; exact if_pos rfl
theorem r2C_own : r2C X W c 4 (pd c) = atPos ER (cell c (rr2 (pd c))) 0 ∅ 0 := by unfold r2C; exact if_pos rfl
omit [FloatOps F] in
theorem bC_past : bC (F := F) c 1 = atPos ER (cell c rb) 1 ∅ 0 := by unfold bC; exact if_neg Nat.one_ne_zero

/-- A device is past all the rounds of this semaphore of its own. -/
def past (r : Ro) : sProp 𝕄 := iprop(∃ n : ℕ, ⌜∀ k, n ≤ k → (Rd X W).duties (cell c r) k = ∅⌝ ∗ atPos ER (cell c r) n ∅ 0)

theorem past_none {r : Ro} (h : payers c r = ∅) : atPos ER (cell c r) 0 ∅ 0 ⊢ past X W c r := by
  unfold past; iintro H; iexists 0
  isplitr; · ipureintro; exact fun k _ => duties_none X W c r h k
  iexact H
theorem past_one (r : Ro) : atPos ER (cell c r) 1 ∅ 0 ⊢ past X W c r := by
  unfold past; iintro H; iexists 1
  isplitr; · ipureintro; exact fun k hk => duties_later X W _ k hk
  iexact H

theorem y_end : iprop(yS X W c 32 8 ∗ s1S X W c 8 8) ⊢ iprop((bigSep Finset.univ fun q => past X W c (rs1 q)) ∗ yPt c Finset.univ (ybuf X W c)) := by
  rw [← y_join c, ← bigSep_sep']
  unfold yS s1S
  rw [← bigSep_sep']
  refine each fun q _ => ?_
  unfold yC s1C
  by_cases hq : q = qd c
  · rw [if_neg (fun h => h.2 hq), if_pos hq, yR_slab X W c q (by omega)]
    iintro ⟨H, H'⟩
    isplitl [H']
    · iapply (past_none X W c (r := rs1 q) (if_pos hq)); iexact H'
    iexact H
  · rw [if_pos ⟨q.isLt, hq⟩, if_neg hq, if_pos q.isLt]
    iintro ⟨-, H', H⟩
    isplitl [H']
    · iapply (past_one X W c); iexact H'
    iexact H
theorem s2_end : iprop(zS X W c 32 4 ∗ s2S X W c 4 4) ⊢ iprop((bigSep Finset.univ fun p => past X W c (rs2 p)) ∗ s2Pt c Finset.univ (s2buf X W c)) := by
  rw [← s2_join c, ← bigSep_sep']
  unfold zS s2S
  rw [← bigSep_sep']
  refine each fun q _ => ?_
  unfold zC s2C
  by_cases hq : q = pd c
  · rw [if_neg (fun h => h.2 hq), if_pos hq, zR_slab X W c q]
    iintro ⟨H, H'⟩
    isplitl [H']
    · iapply (past_none X W c (r := rs2 q) (if_pos hq)); iexact H'
    iexact H
  · rw [if_pos ⟨q.isLt, hq⟩, if_neg hq, if_pos q.isLt]
    iintro ⟨-, H', H⟩
    isplitl [H']
    · iapply (past_one X W c); iexact H'
    iexact H
theorem st_end : iprop(gS X W c 4 ∗ r1S X W c 8) ⊢ iprop((bigSep Finset.univ fun q => past X W c (rr1 q)) ∗ stPt c Finset.univ (stbuf X W c)) := by
  rw [gS_slot, ← st_join c, bigSep_univ_at (fun q => stPt c (stSlot q) (stbuf X W c)) (qd c), bigSep_univ_at (fun q => past X W c (rr1 q)) (qd c)]
  unfold r1S
  rw [bigSep_univ_at (r1C X W c 8) (qd c)]
  have h : bigSep (Finset.univ.erase (qd c)) (r1C X W c 8)
      ⊢ iprop((bigSep (Finset.univ.erase (qd c)) fun q => past X W c (rr1 q)) ∗ bigSep (Finset.univ.erase (qd c)) fun q => stPt c (stSlot q) (stbuf X W c)) := by
    rw [← bigSep_sep']
    refine each fun q hq => ?_
    unfold r1C
    rw [if_neg (Finset.ne_of_mem_erase hq), if_pos q.isLt]
    exact sep_mono_left (past_one X W c _)
  iintro ⟨H, H1, H2⟩
  ihave H2 := h $$ H2
  icases H2 with ⟨H2, H3⟩
  isplitl [H1 H2]
  · isplitl [H1]
    · iapply ((Entails.of_eq (r1C_own X W c)).trans (past_none X W c (r := rr1 (qd c)) (if_pos rfl))); iexact H1
    iexact H2
  isplitl [H] <;> iassumption
theorem o_end : iprop(oC X W c 1 ∗ r2S X W c 4) ⊢ iprop((bigSep Finset.univ fun p => past X W c (rr2 p)) ∗ oPt c Finset.univ (outbuf X W c)) := by
  unfold oC
  rw [if_neg Nat.one_ne_zero, ← o_join c, bigSep_univ_at (fun p => oPt c (outBlk p) (outbuf X W c)) (pd c), bigSep_univ_at (fun p => past X W c (rr2 p)) (pd c)]
  unfold r2S
  rw [bigSep_univ_at (r2C X W c 4) (pd c)]
  have h : bigSep (Finset.univ.erase (pd c)) (r2C X W c 4)
      ⊢ iprop((bigSep (Finset.univ.erase (pd c)) fun p => past X W c (rr2 p)) ∗ bigSep (Finset.univ.erase (pd c)) fun p => oPt c (outBlk p) (outbuf X W c)) := by
    rw [← bigSep_sep']
    refine each fun p hp => ?_
    unfold r2C
    rw [if_neg (Finset.ne_of_mem_erase hp), if_pos p.isLt]
    exact sep_mono_left (past_one X W c _)
  iintro ⟨H, H1, H2⟩
  ihave H2 := h $$ H2
  icases H2 with ⟨H2, H3⟩
  isplitl [H1 H2]
  · isplitl [H1]
    · iapply ((Entails.of_eq (r2C_own X W c)).trans (past_none X W c (r := rr2 (pd c)) (if_pos rfl))); iexact H1
    iexact H2
  isplitl [H] <;> iassumption

/-- A semaphore it is past holds zero, for good. -/
theorem shut (r : Ro) : iprop(recs X W K ∗ past X W c r) ⊢ |={Set.univ}=> (semVal (cell c r) 0 : sProp 𝕄) := by
  unfold past
  iintro ⟨HR, ⟨%n, %hn, H⟩⟩
  ihave HI := (recs_inv X W K c r) $$ HR
  iapply (Rounds.cell_close ER (Rd X W) (Set.mem_univ (K (c, r))) (fun h => h) (R := n) hn)
  isplitl [HI] <;> iassumption

omit [FloatOps F] in
/-- A fact that stays is there for every member of a family. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device's body ends with: its inputs, its buffers whole, its result, and every semaphore of its own at zero. -/
theorem St_end :
    St X W K c 10 1 32 8 4 8 32 4 1 4 8 4 ⊢ |={Set.univ}=> iprop(ow c 0 ∗ xP X c ∗ wP W c
      ∗ (∃ f, yPt c Finset.univ f) ∗ (∃ f, stPt c Finset.univ f) ∗ (∃ f, s2Pt c Finset.univ f) ∗ oPt c Finset.univ (outbuf X W c)
      ∗ bigSep Finset.univ fun r : Ro => semVal (cell c r) 0) := by
  have hs : iprop(recs X W K ∗ bigSep Finset.univ (past X W c)) ⊢ |={Set.univ}=> (bigSep Finset.univ fun r : Ro => semVal (cell c r) 0 : sProp 𝕄) :=
    (with_all fun r _ => shut X W K c r).trans (bigSep_fupd _ _)
  unfold St
  rw [Owed_end]
  iintro ⟨HR, HO, Hx, Hw, -, HB, HY, HS1, -, HG, HR1, HZ, HS2, -, HoC, HR2⟩
  ihave Hy := (y_end X W c) $$ [HY HS1]
  · isplitl [HY] <;> iassumption
  icases Hy with ⟨P1, Hy⟩
  ihave Hst := (st_end X W c) $$ [HG HR1]
  · isplitl [HG] <;> iassumption
  icases Hst with ⟨P2, Hst⟩
  ihave Hs2 := (s2_end X W c) $$ [HZ HS2]
  · isplitl [HZ] <;> iassumption
  icases Hs2 with ⟨P3, Hs2⟩
  ihave Ho := (o_end X W c) $$ [HoC HR2]
  · isplitl [HoC] <;> iassumption
  icases Ho with ⟨P4, Ho⟩
  imod hs $$ [HR HB P1 P2 P3 P4] with Hz
  · isplitl [HR]; · iexact HR
    rw [ro_eq (past X W c)]
    isplitl [HB]
    · iapply ((Entails.of_eq (bC_past c)).trans (past_one X W c rb)); iexact HB
    isplitl [P1]; · iexact P1
    isplitl [P2]; · iexact P2
    isplitl [P3] <;> iassumption
  imodintro
  iframe HO Hx Hw Ho Hz
  isplitl [Hy]; · iexists _; iexact Hy
  isplitl [Hst]; · iexists _; iexact Hst
  iexists _; iexact Hs2

end Cert.KernelIdeal.Rsf

end
-- ==== Proof.Body.lean ====
/- A device's body, as the pipeline asks for it: from what the launch and the staging copies give it, to its result staged
   and its semaphores at zero. -/
module

public import proofs.«01_k».proof.Proof.PartsB
public import proofs.«01_k».proof.Proof.Ends
public import Idealize.ShloMosaic.Lib.Tactic

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg)

/-! ## The memory at the start, and what the pipeline stages of it -/

def s₀ : MemSt nD τ sig (Elt F) := ⟨m, fun _ => 0, ρ⟩

def xstg (c : Dev nD) : Vec F S64x2048 .bf16 :=
  (win0_0.blk (0 : Fin 1)).view.read (Elt F) ((s₀ m ρ).mem ((c : Thread nD τ).loc main_arg0))
def wstg (c : Dev nD) : Vec F S2048x2048 .bf16 :=
  (win0_1.blk (0 : Fin 1)).view.read (Elt F) ((s₀ m ρ).mem ((c : Thread nD τ).loc main_arg1))

/-- What the launch gives a device's body. -/
def start (c : Dev nD) : sProp 𝕄 :=
  iprop((∃ K, recs (xstg m ρ) (wstg m ρ) K) ∗ posn c ∗ toks c ∗ crd c)
def scr (c : Dev nD) : sProp 𝕄 :=
  iprop((∃ f, yPt c Finset.univ f) ∗ (∃ f, stPt c Finset.univ f) ∗ (∃ f, s2Pt c Finset.univ f))
def sems (c : Dev nD) : sProp 𝕄 := bigSep Finset.univ fun r : Ro => semVal (cell c r) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outbuf (xstg m ρ) (wstg m ρ) c
  Φ t := match t with
    | ⟨0, _⟩ => iprop(start m ρ c ∗ scr c)
    | ⟨_ + 1, _⟩ => iprop(scr c ∗ sems c)
  q _ := fullShare
  owed t := match t with
    | ⟨0, _⟩ => Owed c 0 0 0
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m ρ c ∗ scr c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((scr c ∗ sems c) ∗ (dats m ρ 0 c).owesAt () t0_0.succ
    ∗ stg c cc0_stg0_0 (xstg m ρ c) ∗ stg c cc0_stg1_0 (wstg m ρ c) ∗ stg c cc0_stg2_0 (outbuf (xstg m ρ) (wstg m ρ) c))

omit [FloatOps F] in
theorem xP_eq (X : Dev nD → Vec F S64x2048 .bf16) (c : Dev nD) : xP X c = iprop(((c : Thread nD τ).loc cc0_stg0_0) ↦{fullShare} X c) := rfl
omit [FloatOps F] in
theorem wP_eq (W : Dev nD → Vec F S2048x2048 .bf16) (c : Dev nD) : wP W c = iprop(((c : Thread nD τ).loc cc0_stg1_0) ↦{fullShare} W c) := rfl
omit [FloatOps F] in
theorem oPt_eq (c : Dev nD) (f) : (oPt c Finset.univ f : sProp 𝕄) = iprop(((c : Thread nD τ).loc cc0_stg2_0) ↦{fullShare} f) := rfl

theorem body_end (K : Dev nD × Ro → ℕ) (c : Dev nD) :
    St (xstg m ρ) (wstg m ρ) K c 10 1 32 8 4 8 32 4 1 4 8 4 ⊢ |={Set.univ}=> bodyPost m ρ c := by
  iintro H
  imod (St_end (xstg m ρ) (wstg m ρ) K c) $$ H with ⟨HO, Hx, Hw, Hy, Hst, Hs2, Ho, Hz⟩
  imodintro
  unfold bodyPost scr sems Dat.owesAt Pipeline.owesWithin
  isplitl [Hy Hst Hs2 Hz]
  · isplitl [Hy Hst Hs2]
    · isplitl [Hy]; · iexact Hy
      isplitl [Hst] <;> iassumption
    iexact Hz
  isplitl [HO]
  · unfold ow
    icases HO with ⟨%V, HO⟩
    iexists V
    isplitr; · ipureintro; exact fun _ _ => Or.inl trivial
    iexact HO
  isplitl [Hx]
  · iexists _; isplitr; · (ipureintro; rfl)
    iapply (Entails.of_eq (xP_eq (xstg m ρ) c)) $$ Hx
  isplitl [Hw]
  · iexists _; isplitr; · (ipureintro; rfl)
    iapply (Entails.of_eq (wP_eq (wstg m ρ) c)) $$ Hw
  iexists _; isplitr; · (ipureintro; rfl)
  iapply (Entails.of_eq (oPt_eq c _)) $$ Ho

theorem body_start (c : Dev nD) :
    bodyPre m ρ c ⊢ iprop(∃ K, St (xstg m ρ) (wstg m ρ) K c 0 0 0 0 0 0 0 0 0 0 0 0) := by
  unfold bodyPre start scr
  iintro ⟨⟨⟨⟨%K, HR⟩, HP, HT, HC⟩, Hy, Hst, Hs2⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Ho with ⟨%V, %hV, HO⟩
  iexists K
  iapply (St_start (xstg m ρ) (wstg m ρ) K c)
  isplitl [HR]; · iexact HR
  isplitl [HO]; · unfold ow; iexists V; iexact HO
  isplitl [Hx]; · iapply (Entails.of_eq (xP_eq (xstg m ρ) c).symm) $$ Hx
  isplitl [Hw]; · iapply (Entails.of_eq (wP_eq (wstg m ρ) c).symm) $$ Hw
  isplitl [HP]; · iexact HP
  isplitl [HT]; · iexact HT
  isplitl [HC]; · iexact HC
  isplitl [Hy]; · iexact Hy
  isplitl [Hst]; · iexact Hst
  isplitl [Hs2]; · iexact Hs2
  iexists _; iapply (Entails.of_eq (oPt_eq c _).symm) $$ Hout

theorem sound_body (c : Dev nD) : bodyPre m ρ c ⊢ wpc c (onBufs (cc0_body (F := F))) (fun _ => bodyPost m ρ c) := by
  refine (body_start m ρ c).trans ?_
  iintro ⟨%K, H⟩
  have h : St (xstg m ρ) (wstg m ρ) K c 0 0 0 0 0 0 0 0 0 0 0 0 ⊢ wpc c (onBufs (cc0_body (F := F)) >>= pure) (fun _ => bodyPost m ρ c) :=
    body_run (kk := pure) (by unfold wpc; rw [Prog.pure_eq_ret, wp_ret]; exact body_end m ρ K c)
  rw [Prog.bind_pure] at h
  iapply h; iexact H

attribute [local irreducible] xstg wstg outbuf Owed start scr sems cc0_body in
set_option maxRecDepth 4000 in
/-- The body at its one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (onBufs (cc0_body (F := F))) (fun _ => bodyPost m ρ c)
  exact sound_body m ρ c

end Cert.KernelIdeal.Rsf

end
-- ==== Proof.Launch.lean ====
module

public import proofs.«01_k».proof.Proof.Body
public import Idealize.ShloMosaic.Lib.Pipeline.CollectiveSegs
public import Idealize.ShloMosaic.Lib.Pipeline.ValueKit.Geometry
public import Idealize.ShloMosaic.Lib.Tactic

@[expose] public section

noncomputable section

namespace Cert.KernelIdeal.Rsf

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg)

/-! ## The semaphores dealt out -/

theorem ownSemFacts : Pipeline.OwnSemFacts cfg0.spec xsem := by decide +kernel

theorem share_eq (c : Dev nD) (w : Fin cfg0.W) : (dats m ρ 0 c).share w = fullShare := by unfold Dat.share; split <;> rfl

/-- Every semaphore of the protocol. -/
def allCells : Finset (GSem nD τ sig) :=
  Finset.univ.map ⟨fun cr : Dev nD × Ro => cell cr.1 cr.2, fun _ _ h => Prod.ext (cell_inj h).1 (cell_inj h).2⟩

theorem tgt_inj (c : Dev nD) {y y' : Pay} (h : tgt c y = tgt c y') : y = y' := by
  rcases y with i | q | q | p | p <;> rcases y' with i' | q' | q' | p' | p' <;> have h1 := (cell_inj h).1 <;> have h2 := (cell_inj h).2 <;>
    first
    | (cases h2 <;> rfl)
    | (rw [peer_inj c h1])
    | (have e := congrArg qd h1; rw [qd_dev, qd_dev] at e; rw [e])
    | (have e := congrArg pd h1; rw [pd_dev, pd_dev] at e; rw [e])

/-- Every payment: each device's own. -/
def allPays : Finset (GSem nD τ sig × ℕ × Dev nD) :=
  Finset.univ.map ⟨fun cy : Dev nD × Pay => (tgt cy.1 cy.2, 0, cy.1), fun a b h => by
    have h1 : a.1 = b.1 := congrArg (fun x => x.2.2) h
    have h2 : tgt a.1 a.2 = tgt b.1 b.2 := congrArg (fun x => x.1) h
    refine Prod.ext h1 (tgt_inj a.1 ?_)
    rw [h2, h1]⟩

def u₀ : UU := (initOf (Pipeline.cells cfgs cellOf_inj) (Pipeline.launchToks cfgs cellOf_inj), initOf allCells allPays)

/-- What a device is dealt: its semaphores' states, its positions with the marks that nothing has happened, its tokens. -/
def G (c : Dev nD) : sProp 𝕄 :=
  iprop((bigSep Finset.univ fun r : Ro => roundState ER (Rd (xstg m ρ) (wstg m ρ)) (cell c r) 0) ∗ posn c
    ∗ (bigSep Finset.univ fun r : Ro => reached ER (cell c r) 0) ∗ toks c)

theorem deal : BI.own (ER (initOf allCells allPays)) ⊢ (|==> bigSep Finset.univ (G m ρ) : sProp 𝕄) := by
  have hX (Φ : GSem nD τ sig → sProp 𝕄) : bigSep allCells Φ = bigSep Finset.univ fun c : Dev nD => bigSep Finset.univ fun r : Ro => Φ (cell c r) := by
    unfold allCells; rw [bigSep_map, bigSep_univ_prod]; rfl
  have hT : bigSep allPays (fun x => (dutyTok ER x.1 x.2.1 x.2.2 : sProp 𝕄)) = bigSep Finset.univ fun c : Dev nD => toks c := by
    unfold allPays toks; rw [bigSep_map, bigSep_univ_prod]; rfl
  iintro HX
  imod (Rounds.fund ER (Rd (xstg m ρ) (wstg m ρ)) allCells allPays) $$ HX with ⟨Hs, Hr, Ha, Ht⟩
  imodintro
  ihave Hs := (Entails.of_eq (hX fun g => roundState ER (Rd (xstg m ρ) (wstg m ρ)) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G posn; simp only [bigSep_sep']
  isplitl [Hs]; · iexact Hs
  isplitl [Ha]; · iexact Ha
  isplitl [Hr] <;> iassumption

/-- A device's semaphores at zero: its own, and the barrier's. -/
theorem sems_eq (c : Dev nD) : (sems (F := F) c)
    = iprop(unscopedSems0 c ∗ Pipeline.ownSems0 (Ix := Unit) (Name := ℕ) (U := UU) (Lvl := ℕ) (Val := Elt F) (τ := τ) xsem c) := by
  have hb : (unscopedSems0 c : sProp 𝕄) = semVal (cell c rb) 0 := by
    unfold unscopedSems0; rw [bigSep_eq_bigSepL_of_eq [SemLoc.reg barS] (by decide +kernel) (by decide +kernel)]; rfl
  rw [hb]
  unfold sems Pipeline.ownSems0
  rw [bigSep_univ_sum, bigSep_univ_of_subsingleton ()]; rfl

/-- What every device knows but the levels. -/
def known (K : Dev nD × Ro → ℕ) : sProp 𝕄 :=
  iprop((bigSep Finset.univ fun dr : Dev nD × Ro => cellInv ER (Rd (xstg m ρ) (wstg m ρ)) (K dr) (cell dr.1 dr.2))
    ∗ (bigSep Finset.univ fun dr : Dev nD × Ro => reached ER (cell dr.1 dr.2) 0))
instance known_persistent (K : Dev nD × Ro → ℕ) : BI.Persistent (known m ρ K) := by unfold known; infer_instance

def G' (c : Dev nD) : sProp 𝕄 := iprop((∃ K, known m ρ K) ∗ posn c ∗ toks c)

/-- One device's semaphores put under their invariants. -/
def opened (c : Dev nD) : sProp 𝕄 :=
  iprop((bigSep Finset.univ fun r : Ro => iprop(∃ κ : ℕ, cellInv ER (Rd (xstg m ρ) (wstg m ρ)) κ (cell c r)))
    ∗ (bigSep Finset.univ fun r : Ro => reached ER (cell c r) 0) ∗ (posn c ∗ toks c))

theorem open_one (c : Dev nD) :
    iprop(Pipeline.ownSems0 (Ix := Unit) (Name := ℕ) (U := UU) (Lvl := ℕ) (Val := Elt F) (τ := τ) xsem c ∗ unscopedSems0 c ∗ G m ρ c)
      ⊢ |={Set.univ}=> opened m ρ c := by
  have h : iprop(sems c ∗ bigSep Finset.univ fun r : Ro => roundState ER (Rd (xstg m ρ) (wstg m ρ)) (cell c r) 0)
      ⊢ (|={Set.univ}=> bigSep Finset.univ fun r : Ro => iprop(∃ κ : ℕ, cellInv ER (Rd (xstg m ρ) (wstg m ρ)) κ (cell c r)) : sProp 𝕄) := by
    unfold sems
    rw [← bigSep_sep']
    exact (each fun r _ => (Rounds.body_intro ER (Rd (xstg m ρ) (wstg m ρ)) (cell c r)).trans inv_alloc).trans (bigSep_fupd _ _)
  unfold G opened
  iintro ⟨Ho, Hu, Hs, Ha, Hr, Ht⟩
  imod h $$ [Ho Hu Hs] with Hi
  · isplitl [Ho Hu]
    · iapply (Entails.of_eq (sems_eq (F := F) c).symm)
      isplitl [Hu] <;> iassumption
    iexact Hs
  imodintro
  isplitl [Hi]; · iexact Hi
  isplitl [Hr]; · iexact Hr
  isplitl [Ha] <;> iassumption

theorem share_out : (bigSep Finset.univ fun c : Dev nD => opened m ρ c) ⊢ bigSep Finset.univ (G' m ρ) := by
  have hg (K : Dev nD × Ro → ℕ) (c : Dev nD) : iprop(known m ρ K ∗ (posn c ∗ toks c)) ⊢ G' m ρ c := by
    unfold G'
    iintro ⟨HK, Ha, Ht⟩
    isplitl [HK]; · iexists K; iexact HK
    isplitl [Ha] <;> iassumption
  unfold opened
  rw [bigSep_sep', bigSep_sep', ← bigSep_univ_prod (fun cr : Dev nD × Ro => iprop(∃ κ : ℕ, cellInv ER (Rd (xstg m ρ) (wstg m ρ)) κ (cell cr.1 cr.2))),
    ← bigSep_univ_prod (fun cr : Dev nD × Ro => (reached ER (cell cr.1 cr.2) 0 : sProp 𝕄))]
  iintro ⟨HI, #HR, Hl⟩
  ihave HK := (BI.bigSep_exists_pi Finset.univ (fun (cr : Dev nD × Ro) (κ : ℕ) => (cellInv ER (Rd (xstg m ρ) (wstg m ρ)) κ (cell cr.1 cr.2) : sProp 𝕄))) $$ HI
  icases HK with ⟨%K, #HI⟩
  iapply (with_all (R := known m ρ K) fun c _ => hg K c)
  isplitr
  · unfold known; isplitl; · iexact HI
    iexact HR
  · iexact Hl

/-- All the semaphores of all the devices at once. -/
theorem glob : (bigSep Finset.univ fun c => iprop(Pipeline.ownSems0 (Ix := Unit) (Name := ℕ) (U := UU) (Lvl := ℕ) (Val := Elt F) (τ := τ) xsem c ∗ unscopedSems0 c ∗ G m ρ c) : sProp 𝕄)
    ⊢ |={Set.univ}=> bigSep Finset.univ (G' m ρ) :=
  ((each fun c _ => open_one m ρ c).trans (bigSep_fupd _ _)).trans (BI.fupd_mono (share_out m ρ))

/-! ## What is paid into a semaphore, by all the devices together -/

def O₀ (c : Dev nD) : CellTallies nD τ sig Unit := Owed c 0 0 0

theorem tally_at (d c : Dev nD) (r s : Ro) (n : ℕ) :
    (tallyAt (cell d r) () n : CellTallies nD τ sig Unit) (cell c s) () = if c = d ∧ s = r then n else 0 := by
  rw [tallyAt_apply]
  by_cases h : c = d ∧ s = r
  · rw [if_pos h, if_pos ⟨by rw [h.1, h.2], rfl⟩]
  · rw [if_neg h, if_neg fun h' => h (cell_inj h'.1)]

theorem owed_at (d c : Dev nD) (r : Ro) : O₀ d (cell c r) () = (∑ i : Fin 10, if c = peer d i ∧ r = rb then peerAmt i else 0)
    + (∑ q : Fin 8, if q ≠ qd d ∧ c = dev (pd d) q ∧ r = rr1 (qd d) then N1 else 0)
    + (∑ p : Fin 4, if p ≠ pd d ∧ c = dev p (qd d) ∧ r = rr2 (pd d) then N2 else 0) := by
  unfold O₀ Owed
  rw [from_zero, from_zero, from_zero, Pi.add_apply, Finsupp.add_apply, Pi.add_apply, Finsupp.add_apply,
    Finset.sum_apply, Finset.sum_apply, Finset.sum_apply, Finsupp.finset_sum_apply, Finsupp.finset_sum_apply, Finsupp.finset_sum_apply]
  refine congrArg₂ (· + ·) (congrArg₂ (· + ·) (Finset.sum_congr rfl fun i _ => ?_) (Finset.sum_congr rfl fun q _ => ?_)) (Finset.sum_congr rfl fun p _ => ?_)
  · exact tally_at _ _ _ _ _
  · unfold w1
    by_cases h : q = qd d
    · rw [if_pos h, if_neg fun h' => h'.1 h]; rfl
    · rw [if_neg h, tally_at]; simp only [ne_eq, h, not_false_eq_true, true_and]
  · unfold w2
    by_cases h : p = pd d
    · rw [if_pos h, if_neg fun h' => h'.1 h]; rfl
    · rw [if_neg h, tally_at]; simp only [ne_eq, h, not_false_eq_true, true_and]

theorem due_bar (c : Dev nD) : (∑ d : Dev nD, O₀ d (cell c rb) ()) = 31 := by
  have h : ∀ c : Dev nD, (∑ d : Dev nD, ∑ i : Fin 10, if c = peer d i then peerAmt i else 0) = 31 := by decide +kernel
  rw [← h c]
  refine Finset.sum_congr rfl fun d _ => ?_
  rw [owed_at]
  simp only [reduceCtorEq, Sum.inl.injEq, and_true, and_false, if_false, Finset.sum_const_zero, add_zero]

theorem due_row (c : Dev nD) (q : Fin 8) (hq : q ≠ qd c) : (∑ d : Dev nD, O₀ d (cell c (rr1 q)) ()) = N1 := by
  have h : ∀ (c : Dev nD) (q : Fin 8), q ≠ qd c → ∀ d : Dev nD,
      (∑ q' : Fin 8, if q' ≠ qd d ∧ c = dev (pd d) q' ∧ q = qd d then 1 else 0) = if d = dev (pd c) q then 1 else 0 := by decide +kernel
  have e : ∀ d : Dev nD, O₀ d (cell c (rr1 q)) () = if d = dev (pd c) q then N1 else 0 := fun d => by
    have h1 := congrArg (· * N1) (h c q hq d)
    rw [owed_at]
    simp only [Finset.sum_mul, ite_mul, one_mul, zero_mul] at h1
    simp only [reduceCtorEq, Sum.inl.injEq, Sum.inr.injEq, and_false, if_false, Finset.sum_const_zero, add_zero, zero_add]
    exact h1
  rw [Finset.sum_congr rfl fun d _ => e d, Finset.sum_ite_eq', if_pos (Finset.mem_univ _)]

theorem due_col (c : Dev nD) (p : Fin 4) (hp : p ≠ pd c) : (∑ d : Dev nD, O₀ d (cell c (rr2 p)) ()) = N2 := by
  have h : ∀ (c : Dev nD) (p : Fin 4), p ≠ pd c → ∀ d : Dev nD,
      (∑ p' : Fin 4, if p' ≠ pd d ∧ c = dev p' (qd d) ∧ p = pd d then 1 else 0) = if d = dev p (qd c) then 1 else 0 := by decide +kernel
  have e : ∀ d : Dev nD, O₀ d (cell c (rr2 p)) () = if d = dev p (qd c) then N2 else 0 := fun d => by
    have h1 := congrArg (· * N2) (h c p hp d)
    rw [owed_at]
    simp only [Finset.sum_mul, ite_mul, one_mul, zero_mul] at h1
    simp only [reduceCtorEq, Sum.inl.injEq, Sum.inr.injEq, and_false, if_false, Finset.sum_const_zero, add_zero, zero_add]
    exact h1
  rw [Finset.sum_congr rfl fun d _ => e d, Finset.sum_ite_eq', if_pos (Finset.mem_univ _)]

theorem credit (c : Dev nD) (r : Ro) {n : ℕ} (h : (∑ d : Dev nD, O₀ d (cell c r) ()) = n) :
    tallyOn (cell c r) (launchCredit (Pipeline.owing O₀) 0 (cell c r)) = (tallyAt (cell c r) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ crd c := by
  have h : (Pipeline.launchCred O₀ c : sProp 𝕄)
      ⊢ bigSep Finset.univ fun r : Ro => cred (tallyOn (cell c r) (launchCredit (Pipeline.owing O₀) 0 (cell c r))) := by
    unfold Pipeline.launchCred
    have e := bigSep_map (⟨rsem, fun _ _ h => rsem_inj h⟩ : Ro ↪ SemLoc sig) (s := Finset.univ)
      (Φ := fun sm : SemLoc sig => (cred (tallyOn ((c : Thread nD τ), sm) (launchCredit (Pipeline.owing O₀) 0 ((c : Thread nD τ), sm))) : sProp 𝕄))
    exact (bigSep_subset (Finset.subset_univ _)).trans (Entails.of_eq e)
  refine h.trans ?_
  rw [ro_eq]
  unfold crd
  iintro ⟨Hb, -, H1, -, H2⟩
  isplitl [Hb]
  · iapply (Entails.of_eq (congrArg cred (credit c rb (due_bar c)))) $$ Hb
  isplitl [H1]
  · iapply (each (s := Finset.univ) fun (q : Fin 8) _ => ?_) $$ H1
    by_cases hq : q = qd c
    · rw [if_pos hq]; iintro -; iempintro
    · rw [if_neg hq, credit c (rr1 q) (due_row c q hq)]
  · iapply (each (s := Finset.univ) fun (p : Fin 4) _ => ?_) $$ H2
    by_cases hp : p = pd c
    · rw [if_pos hp]; iintro -; iempintro
    · rw [if_neg hp, credit c (rr2 p) (due_col c p hp)]

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' recs levs known
  iintro ⟨-, Hl, Hc, -, ⟨%K, HI, HR⟩, Ha, Ht⟩
  ihave Hc := (creds (F := F) c) $$ Hc
  imodintro
  isplitl
  · isplitl [Hl HI HR]
    · iexists K
      isplitl [HI]; · iexact HI
      isplitl [HR]; · iexact HR
      iexact Hl
    isplitl [Ha]; · iexact Ha
    isplitl [Ht]; · iexact Ht
    iexact Hc
  · iempintro

theorem scr_eq (c : Dev nD) : (scr (F := F) c) = Pipeline.scopedRest cfg0.spec c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, ← scr_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = iprop(scr c ∗ sems c) from rfl, ← scr_eq, sems_eq]
  iintro ⟨Hr, Hu, Ho⟩
  isplitl [Hu]; · iexact Hu
  isplitl [Ho] <;> iassumption

theorem stage_wait (c : Dev nD) (sm : SemLoc sig) (h : roleOf sm = none) (O : CellTallies nD τ sig Unit) (hO : O = Owed c 0 0 0 ∨ O = 0) :
    (levAts L lv : sProp 𝕄) ⊢ MayWait (c : Thread nD τ) sm () O := by
  have hl : lvR (roleOf sm) ≤ 0 := by rw [h]; exact Nat.le_refl 0
  rcases hO with rfl | rfl
  · exact mayWait c sm 0 0 0 0 hl (fun _ => by decide) (fun _ => by decide) (fun _ => by decide)
  · rw [← Owed_end c]
    exact mayWait c sm 0 10 8 4 hl (fun h => by omega) (fun h => by omega) (fun h => by omega)

/-- While the staging copies are waited for, everything owed is at a higher level. -/
theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr rfl)

/-! ## The run -/

/-- What a window's array ends with. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ (c : Dev nD) (w : Fin cfg0.W), r.2.mem ((cfg0.win w).arr.view.loc (c : Thread nD τ)) = finalA m ρ c w

attribute [local irreducible] xstg wstg outbuf Owed start scr sems cc0_body in
set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0)
    (hstage := stage_whole0) (hshare := share_eq m ρ) (hdistinct := winFacts0.arr_inj) (O₀ := O₀) (howed₀ := fun _ => rfl) (howedN := fun _ => rfl)
    (L := L) (lv := lv) (hL := L_of_ne) (hwaits := waits m ρ) (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ) (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays end as they were; -/
theorem final_x (c : Dev nD) : finalA m ρ c (0 : Fin 3) = m ((c : Thread nD τ).loc main_arg0) := (dats m ρ 0 c).arrAt_in (0 : Fin 3) rfl _
theorem final_w (c : Dev nD) : finalA m ρ c (1 : Fin 3) = m ((c : Thread nD τ).loc main_arg1) := (dats m ρ 0 c).arrAt_in (1 : Fin 3) rfl _
/-- the result's is what the body left. -/
theorem final_out (c : Dev nD) : finalA m ρ c (2 : Fin 3) = outbuf (xstg m ρ) (wstg m ρ) c :=
  (dats m ρ 0 c).arrAt_eq_of_after_last (2 : Fin 3) t0_0 (by decide +kernel) _ fun j => rfl

/-- The inputs are staged whole. -/
theorem xstg_eq (c : Dev nD) : xstg m ρ c = m ((c : Thread nD τ).loc main_arg0) := Memref.read_access_unit_zero _ _ (funext fun a => by fin_cases a <;> rfl) _ _
theorem wstg_eq (c : Dev nD) : wstg m ρ c = m ((c : Thread nD τ).loc main_arg1) := Memref.read_access_unit_zero _ _ (funext fun a => by fin_cases a <;> rfl) _ _

end Cert.KernelIdeal.Rsf

end
-- ==== Proof.Reference.lean ====
/- The reference's result, at an element. -/
module

public import proofs.«01_k».proof.Proof.Gen.ReferenceIdeal.Run
public import Idealize.ShloMosaic.Lib.Pointwise
public import Idealize.ShloMosaic.Lib.ValueIdx

@[expose] public section

noncomputable section

namespace Cert.ReferenceIdeal.Rsf

open Idealize.ShloMosaic
open Cert.ReferenceIdeal Cert.ReferenceIdeal.Gen

/-- The whole product, rounded to the result's type. -/
def prod (A B : FVec Ideal S2048x2048 .bf16) : FVec Ideal S2048x2048 .bf16 :=
  truncf (F := Ideal) .bf16 (Host.dotGeneral dot_S2048x2048_S2048x2048_S2048x2048_1_0_0_1_n_n none A B) bitsLt_bf16_f32

theorem prod_apply (A B : FVec Ideal S2048x2048 .bf16) (i : S2048x2048.Idx) :
    prod A B i = ∑ k : Fin 2048, A (ValueIdx.ix2 (i 0) k) * B (ValueIdx.ix2 k (i 1)) := by
  unfold prod
  simp only [pointwise]
  rw [zero_add]
  rfl

end Cert.ReferenceIdeal.Rsf

end
-- ==== Proof.Values.lean ====
/- What the kernel computes, over exact values: device `d`'s result is columns `[64 d, 64 d + 64)` of the whole product. -/
module

public import proofs.«01_k».proof.Proof.Contents
public import proofs.«01_k».proof.Proof.Reference
public import Idealize.ShloMosaic.Lib.LayoutAt

@[expose] public section

noncomputable section

namespace Cert.KernelIdeal.Rsf

open Idealize.ShloMosaic Idealize.ShloMosaic.TcCoe Idealize.ShloMosaic.ValueIdx
open Cert.KernelIdeal.Gen

set_option backward.proofsInPublic true

/-- One product, at an element: the full sum. -/
theorem blk_apply (x : Vec Ideal S64x2048 .bf16) (w : Vec Ideal S2048x2048 .bf16) (g : Fin 16) (i : S64x128.Idx) :
    blk x w g i = ∑ k : Fin 2048, x (ValueIdx.ix2 (i 0) k) * w (ValueIdx.ix2 k ⟨128 * g.val + (i 1).val, by have h : (i 1).val < 128 := (i 1).isLt; omega⟩) := by
  unfold blk k0_pay6 k0_pay1 wcol
  simp only [pointwise]
  rw [zero_add]
  rfl

/-- The device whose rows are rows `[64 e, 64 e + 64)`, `e` the block of row `r`. -/
def rowDev (r : Fin 2048) : Dev nD := dev ⟨r.val / 512, by omega⟩ ⟨r.val % 512 / 64, by omega⟩

theorem rowDev_val (r : Fin 2048) : (rowDev r).val = r.val / 64 := by
  show 8 * (r.val / 512) + r.val % 512 / 64 = r.val / 64
  omega

/-- A device's result, at an element: the full sum, over the rows of the device that holds them. -/
theorem outbuf_apply (X : Dev nD → Vec Ideal S64x2048 .bf16) (W : Dev nD → Vec Ideal S2048x2048 .bf16) (c : Dev nD) (r : Fin 2048) (s : Fin 64) :
    outbuf X W c (ValueIdx.ix2 r s) = ∑ k : Fin 2048, X (rowDev r) (ValueIdx.ix2 ⟨r.val % 64, by omega⟩ k)
      * W (rowDev r) (ValueIdx.ix2 k ⟨64 * c.val + s.val, by have h : c.val < 32 := c.isLt; omega⟩) := by
  have hc : c.val < 32 := c.isLt
  have hp : (pd c).val = c.val / 8 := rfl
  have hq : (qd c).val = c.val % 8 := rfl
  have hd : dev (pd (dev ⟨r.val / 512, by omega⟩ (qd c))) ⟨r.val % 512 / 64, by omega⟩ = rowDev r := by rw [pd_dev]; rfl
  show blk (X (dev (pd (dev ⟨r.val / 512, by omega⟩ (qd c))) ⟨r.val % 512 / 64, by omega⟩))
    (W (dev (pd (dev ⟨r.val / 512, by omega⟩ (qd c))) ⟨r.val % 512 / 64, by omega⟩)) _ _ = _
  rw [hd, blk_apply]
  refine Finset.sum_congr rfl fun k _ => congrArg₂ (· * ·) (congrArg (X _) ?_) (congrArg (W _) ?_)
  · refine funext fun a => Fin.ext ?_
    match a with
    | ⟨0, _⟩ => show r.val % 512 % 64 = r.val % 64; omega
    | ⟨1, _⟩ => rfl
  · refine funext fun a => Fin.ext ?_
    match a with
    | ⟨0, _⟩ => rfl
    | ⟨1, _⟩ =>
      have e : (qd (dev ⟨r.val / 512, by omega⟩ (qd c))).val = c.val % 8 := by rw [qd_dev, hq]
      show 128 * (4 * ((4 * (qd (dev ⟨r.val / 512, by omega⟩ (qd c))).val + (pd c).val) % 4) + (4 * (qd (dev ⟨r.val / 512, by omega⟩ (qd c))).val + (pd c).val) / 8)
        + (64 * ((4 * (qd (dev ⟨r.val / 512, by omega⟩ (qd c))).val + (pd c).val) / 4 % 2) + s.val) = 64 * c.val + s.val
      have key : ∀ d : Fin 32, 2 * (4 * ((4 * (d.val % 8) + d.val / 8) % 4) + (4 * (d.val % 8) + d.val / 8) / 8)
          + (4 * (d.val % 8) + d.val / 8) / 4 % 2 = d.val := by decide
      have h1 := key c
      rw [e, hp]
      omega

/-- Every device holding its rows of `A` and the whole of `B`, device `c` ends with its columns of the product. -/
theorem outbuf_eq (A B : Vec Ideal ⟨2, ![2048, 2048]⟩ .bf16) (X : Dev nD → Vec Ideal S64x2048 .bf16) (W : Dev nD → Vec Ideal S2048x2048 .bf16)
    (hX : ∀ c, X c = Layout.block ⟨2, ![64, 2048]⟩ ⟨2, ![2048, 2048]⟩ 0 32 c A) (hW : ∀ c, W c = B) (c : Dev nD) :
    outbuf X W c = Layout.block ⟨2, ![2048, 64]⟩ ⟨2, ![2048, 2048]⟩ 1 32 c (Cert.ReferenceIdeal.Rsf.prod A B) := by
  funext i
  obtain ⟨r, s, rfl⟩ : ∃ (r : Fin 2048) (s : Fin 64), i = ValueIdx.ix2 r s := ⟨i 0, i 1, ValueIdx.eq_ix2 i⟩
  rw [outbuf_apply]
  show _ = Cert.ReferenceIdeal.Rsf.prod A B _
  rw [Cert.ReferenceIdeal.Rsf.prod_apply]
  have hr := rowDev_val r
  refine Finset.sum_congr rfl fun k _ => ?_
  rw [hX, hW]
  refine congrArg₂ (· * ·) ?_ ?_
  · shard_ext
  · shard_ext

end Cert.KernelIdeal.Rsf

end
-- ==== Proof.lean ====
/- The five claims: both readings of the kernel, and the reference, end without fault with their arguments and their
   semaphores as they were; the ideal kernel is the kernel over the extended reals; and each device's result is its block of
   columns of the reference's product. The kernel's run is proved once, for any values of the floats, in `Proof/Launch.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- What a run of the kernel that ends as it should leaves of its arguments, and its counters. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Rsf.final_x m ρ c), (h.1 c (1 : Fin 3)).trans (Cert.KernelIdeal.Rsf.final_w m ρ c)⟩, h.2⟩) (Cert.KernelIdeal.Rsf.run_main m ρ)

/-- The two programs have one text: the same bodies, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
/-- and the same pipelines around them. -/
theorem same_defs {F : FTy → Type} [FloatOps F] : Cert.Kernel.defs (F := F) = Cert.KernelIdeal.defs (F := F) := by
  unfold Cert.Kernel.defs Cert.KernelIdeal.defs
  exact congrArg (Pipeline.defs _) same_bodies

/-- So the run at bit patterns is the first's. -/
theorem frame_kernel : Cert.quiescent_Kernel := fun m ρ _ => by
  have h := kept (F := Bits) m ρ
  rw [← same_defs] at h
  exact h

theorem frame_ideal : Cert.quiescent_KernelIdeal := fun m ρ _ => kept (F := Ideal) m ρ

/-- The reference has no semaphore, and writes neither argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends holding its columns of the reference's product. -/
theorem algebraic : Cert.algebraic_KernelIdeal_ReferenceIdeal := by
  intro m ρ m' ρ' _ ha
  refine ⟨Cert.ReferenceIdeal.Rsf.prod (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c (2 : Fin 3)).trans ((Cert.KernelIdeal.Rsf.final_out m ρ c).trans ?_),
      (h.1 c (0 : Fin 3)).trans (Cert.KernelIdeal.Rsf.final_x m ρ c), (h.1 c (1 : Fin 3)).trans (Cert.KernelIdeal.Rsf.final_w m ρ c)⟩) (Cert.KernelIdeal.Rsf.run_main (F := Ideal) m ρ)
    exact Cert.KernelIdeal.Rsf.outbuf_eq _ _ _ _ (fun c => (Cert.KernelIdeal.Rsf.xstg_eq m ρ c).trans (ha c).1) (fun c => (Cert.KernelIdeal.Rsf.wstg_eq m ρ c).trans (ha c).2) c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
